-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x1024 .f32) (main_arg2 : FVec F S1x1024x128x128 .f32) (main_arg3 : FVec F S1x1024x128x128 .f32) (main_arg4 : FVec F S1024x1024 .f32) : IVec S1x1024x1024 1 × IVec S1024x1024 1 × IVec S1x1024x128x128 1 :=
  let main_cst : FVec F S_ .f32 := constant S_ .f32 0xFF800000#32
  let main_v0 : FVec F S1x1024x1024 .f32 := broadcastInDim S1x1024x1024 ![] bcast_S_S1x1024x1024 main_cst
  let main_v1 : IVec S1x1024x1024 1 := cmpf .ogt main_arg0 main_v0
  let main_cst_0 : FVec F S_ .f32 := constant S_ .f32 0x7F800000#32
  let main_v2 : FVec F S1x1024x1024 .f32 := broadcastInDim S1x1024x1024 ![] bcast_S_S1x1024x1024 main_cst_0
  let main_v3 : IVec S1x1024x1024 1 := cmpf .olt main_arg0 main_v2
  let main_v4 : IVec S1x1024x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .ogt main_arg1 main_v5
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S1x1024x128x128 .f32 := broadcastInDim S1x1024x128x128 ![] bcast_S_S1x1024x128x128 main_cst_3
  let main_v11 : IVec S1x1024x128x128 1 := cmpf .ogt main_arg2 main_v10
  let main_cst_4 : FVec F S_ .f32 := constant S_ .f32 0x7F800000#32
  let main_v12 : FVec F S1x1024x128x128 .f32 := broadcastInDim S1x1024x128x128 ![] bcast_S_S1x1024x128x128 main_cst_4
  let main_v13 : IVec S1x1024x128x128 1 := cmpf .olt main_arg2 main_v12
  let main_v14 : IVec S1x1024x128x128 1 := andi main_v11 main_v13
  (main_v4, main_v9, main_v14)
-- ==== Pre_scores_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  bcast_S_S1024x16384 : S_.BroadcastsInDim S1024x16384 (![] : Fin 0 → Fin S1024x16384.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S1x1024x1024 1 × IVec S1024x16384 1 × IVec S1x1024x128x128 1 :=
  let main_cst : FVec F S_ .f32 := constant S_ .f32 0xFF800000#32
  let main_v0 : FVec F S1x1024x1024 .f32 := broadcastInDim S1x1024x1024 ![] bcast_S_S1x1024x1024 main_cst
  let main_v1 : IVec S1x1024x1024 1 := cmpf .ogt main_arg0 main_v0
  let main_cst_0 : FVec F S_ .f32 := constant S_ .f32 0x7F800000#32
  let main_v2 : FVec F S1x1024x1024 .f32 := broadcastInDim S1x1024x1024 ![] bcast_S_S1x1024x1024 main_cst_0
  let main_v3 : IVec S1x1024x1024 1 := cmpf .olt main_arg0 main_v2
  let main_v4 : IVec S1x1024x1024 1 := andi main_v1 main_v3
  let main_cst_1 : FVec F S_ .f32 := constant S_ .f32 0xFF800000#32
  let main_v5 : FVec F S1024x16384 .f32 := broadcastInDim S1024x16384 ![] bcast_S_S1024x16384 main_cst_1
  let main_v6 : IVec S1024x16384 1 := cmpf .ogt main_arg1 main_v5
  let main_cst_2 : FVec F S_ .f32 := constant S_ .f32 0x7F800000#32
  let main_v7 : FVec F S1024x16384 .f32 := broadcastInDim S1024x16384 ![] bcast_S_S1024x16384 main_cst_2
  let main_v8 : IVec S1024x16384 1 := cmpf .olt main_arg1 main_v7
  let main_v9 : IVec S1024x16384 1 := andi main_v6 main_v8
  let main_cst_3 : FVec F S_ .f32 := constant S_ .f32 0xFF800000#32
  let main_v10 : FVec F S1x1024x128x128 .f32 := broadcastInDim S1x1024x128x128 ![] bcast_S_S1x1024x128x128 main_cst_3
  let main_v11 : IVec S1x1024x128x128 1 := cmpf .ogt main_arg2 main_v10
  let main_cst_4 : FVec F S_ .f32 := constant S_ .f32 0x7F800000#32
  let main_v12 : FVec F S1x1024x128x128 .f32 := broadcastInDim S1x1024x128x128 ![] bcast_S_S1x1024x128x128 main_cst_4
  let main_v13 : IVec S1x1024x128x128 1 := cmpf .olt main_arg2 main_v12
  let main_v14 : IVec S1x1024x128x128 1 := andi main_v11 main_v13
  (main_v4, main_v9, main_v14)
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩
abbrev S1024x128x128 : Shape := ⟨3, ![1024, 128, 128]⟩
abbrev S1024x8x128 : Shape := ⟨3, ![1024, 8, 128]⟩
abbrev S8x1024x128 : Shape := ⟨3, ![8, 1024, 128]⟩
abbrev S15x64x1024 : Shape := ⟨3, ![15, 64, 1024]⟩
abbrev S64x1024 : Shape := ⟨2, ![64, 1024]⟩
abbrev S15 : Shape := ⟨1, ![15]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x1024 : Shape := ⟨2, ![256, 1024]⟩
abbrev S1x512x128 : Shape := ⟨3, ![1, 512, 128]⟩
abbrev S512x128 : Shape := ⟨2, ![512, 128]⟩
abbrev S256x512 : Shape := ⟨2, ![256, 512]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S1x64x1024 : Shape := ⟨3, ![1, 64, 1024]⟩
abbrev S1 : Shape := ⟨1, ![1]⟩

abbrev nBuf : Space → Nat
  | .hbm => 38
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x128x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .f32⟩
  | .hbm, ⟨23, _⟩ => ⟨S1024x128x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .f32⟩
  | .hbm, ⟨34, _⟩ => ⟨S8x1024x128, .f32⟩
  | .hbm, ⟨35, _⟩ => ⟨S8x1024x128, .f32⟩
  | .hbm, ⟨36, _⟩ => ⟨S1024x1024, .f32⟩
  | .hbm, ⟨37, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024x128, .f32⟩
  | .local _ .vmem, ⟨3, _⟩ => ⟨S8x1024x128, .f32⟩
  | .local _ .vmem, ⟨4, _⟩ => ⟨S1024x1024, .f32⟩
  | .local _ .vmem, ⟨5, _⟩ => ⟨S1024x1024, .f32⟩
  | .local _ .vmem, ⟨6, _⟩ => ⟨S15x64x1024, .bf16⟩
  | .local _ .vmem, ⟨7, _⟩ => ⟨S15x64x1024, .bf16⟩
  | .local _ .vmem, ⟨8, _⟩ => ⟨S1024x1024, .bf16⟩
  | .local _ .vmem, ⟨9, _⟩ => ⟨S64x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_489 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v957 : BitVec 32 := Scalar.addi v2 c1_i32_489
  let c16_i32_490 : BitVec 32 := 16#32
  let v958 : BitVec 32 := Scalar.remsi v957 c16_i32_490
  let c64_i32_491 : BitVec 32 := 64#32
  let v959 : BitVec 32 := Scalar.muli v958 c64_i32_491
  let v960 : Index := Scalar.indexCast v959
  let c0_492 : Index := 0#32
  ![v960.toNat, 0]
def k0_dev16 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_489 : BitVec 32 := 1#32
  let v957 : BitVec 32 := Scalar.addi v2 c1_i32_489
  let c16_i32_490 : BitVec 32 := 16#32
  let v958 : BitVec 32 := Scalar.remsi v957 c16_i32_490
  let c1_i32_500 : BitVec 32 := 1#32
  let v967 : BitVec 32 := Scalar.muli v958 c1_i32_500
  let v968 : BitVec 32 := Scalar.addi c0_i32_501 v967
  v968.toNat
def k0_dev17 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_506 : BitVec 32 := 2#32
  let v977 : BitVec 32 := Scalar.addi v2 c2_i32_506
  let c16_i32_507 : BitVec 32 := 16#32
  let v978 : BitVec 32 := Scalar.remsi v977 c16_i32_507
  let c1_i32_517 : BitVec 32 := 1#32
  let v987 : BitVec 32 := Scalar.muli v978 c1_i32_517
  let v988 : BitVec 32 := Scalar.addi c0_i32_518 v987
  v988.toNat
def k0_dev18 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_523 : BitVec 32 := 3#32
  let v997 : BitVec 32 := Scalar.addi v2 c3_i32_523
  let c16_i32_524 : BitVec 32 := 16#32
  let v998 : BitVec 32 := Scalar.remsi v997 c16_i32_524
  let c1_i32_534 : BitVec 32 := 1#32
  let v1007 : BitVec 32 := Scalar.muli v998 c1_i32_534
  let v1008 : BitVec 32 := Scalar.addi c0_i32_535 v1007
  v1008.toNat
def k0_dev19 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_540 : BitVec 32 := 4#32
  let v1017 : BitVec 32 := Scalar.addi v2 c4_i32_540
  let c16_i32_541 : BitVec 32 := 16#32
  let v1018 : BitVec 32 := Scalar.remsi v1017 c16_i32_541
  let c1_i32_551 : BitVec 32 := 1#32
  let v1027 : BitVec 32 := Scalar.muli v1018 c1_i32_551
  let v1028 : BitVec 32 := Scalar.addi c0_i32_552 v1027
  v1028.toNat
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_557 : BitVec 32 := 5#32
  let v1037 : BitVec 32 := Scalar.addi v2 c5_i32_557
  let c16_i32_558 : BitVec 32 := 16#32
  let v1038 : BitVec 32 := Scalar.remsi v1037 c16_i32_558
  let c1_i32_568 : BitVec 32 := 1#32
  let v1047 : BitVec 32 := Scalar.muli v1038 c1_i32_568
  let v1048 : BitVec 32 := Scalar.addi c0_i32_569 v1047
  v1048.toNat
def k0_dev21 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_574 : BitVec 32 := 6#32
  let v1057 : BitVec 32 := Scalar.addi v2 c6_i32_574
  let c16_i32_575 : BitVec 32 := 16#32
  let v1058 : BitVec 32 := Scalar.remsi v1057 c16_i32_575
  let c1_i32_585 : BitVec 32 := 1#32
  let v1067 : BitVec 32 := Scalar.muli v1058 c1_i32_585
  let v1068 : BitVec 32 := Scalar.addi c0_i32_586 v1067
  v1068.toNat
def k0_dev22 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_591 : BitVec 32 := 7#32
  let v1077 : BitVec 32 := Scalar.addi v2 c7_i32_591
  let c16_i32_592 : BitVec 32 := 16#32
  let v1078 : BitVec 32 := Scalar.remsi v1077 c16_i32_592
  let c1_i32_602 : BitVec 32 := 1#32
  let v1087 : BitVec 32 := Scalar.muli v1078 c1_i32_602
  let v1088 : BitVec 32 := Scalar.addi c0_i32_603 v1087
  v1088.toNat
def k0_dev23 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_608 : BitVec 32 := 8#32
  let v1097 : BitVec 32 := Scalar.addi v2 c8_i32_608
  let c16_i32_609 : BitVec 32 := 16#32
  let v1098 : BitVec 32 := Scalar.remsi v1097 c16_i32_609
  let c1_i32_619 : BitVec 32 := 1#32
  let v1107 : BitVec 32 := Scalar.muli v1098 c1_i32_619
  let v1108 : BitVec 32 := Scalar.addi c0_i32_620 v1107
  v1108.toNat
def k0_dev24 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_625 : BitVec 32 := 9#32
  let v1117 : BitVec 32 := Scalar.addi v2 c9_i32_625
  let c16_i32_626 : BitVec 32 := 16#32
  let v1118 : BitVec 32 := Scalar.remsi v1117 c16_i32_626
  let c1_i32_635 : BitVec 32 := 1#32
  let v1127 : BitVec 32 := Scalar.muli v1118 c1_i32_635
  let v1128 : BitVec 32 := Scalar.addi c0_i32_636 v1127
  v1128.toNat
def k0_dev25 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_641 : BitVec 32 := 10#32
  let v1137 : BitVec 32 := Scalar.addi v2 c10_i32_641
  let c16_i32_642 : BitVec 32 := 16#32
  let v1138 : BitVec 32 := Scalar.remsi v1137 c16_i32_642
  let c1_i32_651 : BitVec 32 := 1#32
  let v1147 : BitVec 32 := Scalar.muli v1138 c1_i32_651
  let v1148 : BitVec 32 := Scalar.addi c0_i32_652 v1147
  v1148.toNat
def k0_dev26 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_657 : BitVec 32 := 11#32
  let v1157 : BitVec 32 := Scalar.addi v2 c11_i32_657
  let c16_i32_658 : BitVec 32 := 16#32
  let v1158 : BitVec 32 := Scalar.remsi v1157 c16_i32_658
  let c1_i32_667 : BitVec 32 := 1#32
  let v1167 : BitVec 32 := Scalar.muli v1158 c1_i32_667
  let v1168 : BitVec 32 := Scalar.addi c0_i32_668 v1167
  v1168.toNat
def k0_dev27 (d0 : Dev nD) : Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_673 : BitVec 32 := 12#32
  let v1177 : BitVec 32 := Scalar.addi v2 c12_i32_673
  let c16_i32_674 : BitVec 32 := 16#32
  let v1178 : BitVec 32 := Scalar.remsi v1177 c16_i32_674
  let c1_i32_683 : BitVec 32 := 1#32
  let v1187 : BitVec 32 := Scalar.muli v1178 c1_i32_683
  let v1188 : BitVec 32 := Scalar.addi c0_i32_684 v1187
  v1188.toNat
def k0_dev28 (d0 : Dev nD) : Nat :=
  let c0_i32_700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_689 : BitVec 32 := 13#32
  let v1197 : BitVec 32 := Scalar.addi v2 c13_i32_689
  let c16_i32_690 : BitVec 32 := 16#32
  let v1198 : BitVec 32 := Scalar.remsi v1197 c16_i32_690
  let c1_i32_699 : BitVec 32 := 1#32
  let v1207 : BitVec 32 := Scalar.muli v1198 c1_i32_699
  let v1208 : BitVec 32 := Scalar.addi c0_i32_700 v1207
  v1208.toNat
def k0_dev29 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_705 : BitVec 32 := 14#32
  let v1217 : BitVec 32 := Scalar.addi v2 c14_i32_705
  let c16_i32_706 : BitVec 32 := 16#32
  let v1218 : BitVec 32 := Scalar.remsi v1217 c16_i32_706
  let c1_i32_715 : BitVec 32 := 1#32
  let v1227 : BitVec 32 := Scalar.muli v1218 c1_i32_715
  let v1228 : BitVec 32 := Scalar.addi c0_i32_716 v1227
  v1228.toNat
def k0_dev30 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_721 : BitVec 32 := 15#32
  let v1237 : BitVec 32 := Scalar.addi v2 c15_i32_721
  let c16_i32_722 : BitVec 32 := 16#32
  let v1238 : BitVec 32 := Scalar.remsi v1237 c16_i32_722
  let c1_i32_731 : BitVec 32 := 1#32
  let v1247 : BitVec 32 := Scalar.muli v1238 c1_i32_731
  let v1248 : BitVec 32 := Scalar.addi c0_i32_732 v1247
  v1248.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_737 : BitVec 32 := 64#32
  let v1257 : BitVec 32 := Scalar.muli v2 c64_i32_737
  let v1258 : Index := Scalar.indexCast v1257
  let c0_738 : Index := 0#32
  ![v1258.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_940 : BitVec 32 := 64#32
  let v1450 : BitVec 32 := Scalar.muli v2 c64_i32_940
  let c0_i32_945 : BitVec 32 := 0#32
  ![v1450.toNat, 0]
def k0_dev31 (d0 : Dev nD) : Nat :=
  let c0_i32_944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_938 : BitVec 32 := 1#32
  let v1448 : BitVec 32 := Scalar.addi v2 c1_i32_938
  let c16_i32_939 : BitVec 32 := 16#32
  let v1449 : BitVec 32 := Scalar.remsi v1448 c16_i32_939
  let c1_i32_943 : BitVec 32 := 1#32
  let v1451 : BitVec 32 := Scalar.muli v1449 c1_i32_943
  let v1452 : BitVec 32 := Scalar.addi c0_i32_944 v1451
  v1452.toNat
def k0_dev32 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_946 : BitVec 32 := 2#32
  let v1458 : BitVec 32 := Scalar.addi v2 c2_i32_946
  let c16_i32_947 : BitVec 32 := 16#32
  let v1459 : BitVec 32 := Scalar.remsi v1458 c16_i32_947
  let c1_i32_951 : BitVec 32 := 1#32
  let v1461 : BitVec 32 := Scalar.muli v1459 c1_i32_951
  let v1462 : BitVec 32 := Scalar.addi c0_i32_952 v1461
  v1462.toNat
def k0_dev33 (d0 : Dev nD) : Nat :=
  let c0_i32_960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_954 : BitVec 32 := 3#32
  let v1468 : BitVec 32 := Scalar.addi v2 c3_i32_954
  let c16_i32_955 : BitVec 32 := 16#32
  let v1469 : BitVec 32 := Scalar.remsi v1468 c16_i32_955
  let c1_i32_959 : BitVec 32 := 1#32
  let v1471 : BitVec 32 := Scalar.muli v1469 c1_i32_959
  let v1472 : BitVec 32 := Scalar.addi c0_i32_960 v1471
  v1472.toNat
def k0_dev34 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_962 : BitVec 32 := 4#32
  let v1478 : BitVec 32 := Scalar.addi v2 c4_i32_962
  let c16_i32_963 : BitVec 32 := 16#32
  let v1479 : BitVec 32 := Scalar.remsi v1478 c16_i32_963
  let c1_i32_967 : BitVec 32 := 1#32
  let v1481 : BitVec 32 := Scalar.muli v1479 c1_i32_967
  let v1482 : BitVec 32 := Scalar.addi c0_i32_968 v1481
  v1482.toNat
def k0_dev35 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_970 : BitVec 32 := 5#32
  let v1488 : BitVec 32 := Scalar.addi v2 c5_i32_970
  let c16_i32_971 : BitVec 32 := 16#32
  let v1489 : BitVec 32 := Scalar.remsi v1488 c16_i32_971
  let c1_i32_975 : BitVec 32 := 1#32
  let v1491 : BitVec 32 := Scalar.muli v1489 c1_i32_975
  let v1492 : BitVec 32 := Scalar.addi c0_i32_976 v1491
  v1492.toNat
def k0_dev36 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_978 : BitVec 32 := 6#32
  let v1498 : BitVec 32 := Scalar.addi v2 c6_i32_978
  let c16_i32_979 : BitVec 32 := 16#32
  let v1499 : BitVec 32 := Scalar.remsi v1498 c16_i32_979
  let c1_i32_983 : BitVec 32 := 1#32
  let v1501 : BitVec 32 := Scalar.muli v1499 c1_i32_983
  let v1502 : BitVec 32 := Scalar.addi c0_i32_984 v1501
  v1502.toNat
def k0_dev37 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_986 : BitVec 32 := 7#32
  let v1508 : BitVec 32 := Scalar.addi v2 c7_i32_986
  let c16_i32_987 : BitVec 32 := 16#32
  let v1509 : BitVec 32 := Scalar.remsi v1508 c16_i32_987
  let c1_i32_991 : BitVec 32 := 1#32
  let v1511 : BitVec 32 := Scalar.muli v1509 c1_i32_991
  let v1512 : BitVec 32 := Scalar.addi c0_i32_992 v1511
  v1512.toNat
def k0_dev38 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_994 : BitVec 32 := 8#32
  let v1518 : BitVec 32 := Scalar.addi v2 c8_i32_994
  let c16_i32_995 : BitVec 32 := 16#32
  let v1519 : BitVec 32 := Scalar.remsi v1518 c16_i32_995
  let c1_i32_999 : BitVec 32 := 1#32
  let v1521 : BitVec 32 := Scalar.muli v1519 c1_i32_999
  let v1522 : BitVec 32 := Scalar.addi c0_i32_1000 v1521
  v1522.toNat
def k0_dev39 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1002 : BitVec 32 := 9#32
  let v1528 : BitVec 32 := Scalar.addi v2 c9_i32_1002
  let c16_i32_1003 : BitVec 32 := 16#32
  let v1529 : BitVec 32 := Scalar.remsi v1528 c16_i32_1003
  let c1_i32_1007 : BitVec 32 := 1#32
  let v1531 : BitVec 32 := Scalar.muli v1529 c1_i32_1007
  let v1532 : BitVec 32 := Scalar.addi c0_i32_1008 v1531
  v1532.toNat
def k0_dev40 (d0 : Dev nD) : Nat :=
  let c0_i32_1016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1010 : BitVec 32 := 10#32
  let v1538 : BitVec 32 := Scalar.addi v2 c10_i32_1010
  let c16_i32_1011 : BitVec 32 := 16#32
  let v1539 : BitVec 32 := Scalar.remsi v1538 c16_i32_1011
  let c1_i32_1015 : BitVec 32 := 1#32
  let v1541 : BitVec 32 := Scalar.muli v1539 c1_i32_1015
  let v1542 : BitVec 32 := Scalar.addi c0_i32_1016 v1541
  v1542.toNat
def k0_dev41 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1018 : BitVec 32 := 11#32
  let v1548 : BitVec 32 := Scalar.addi v2 c11_i32_1018
  let c16_i32_1019 : BitVec 32 := 16#32
  let v1549 : BitVec 32 := Scalar.remsi v1548 c16_i32_1019
  let c1_i32_1023 : BitVec 32 := 1#32
  let v1551 : BitVec 32 := Scalar.muli v1549 c1_i32_1023
  let v1552 : BitVec 32 := Scalar.addi c0_i32_1024 v1551
  v1552.toNat
def k0_dev42 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1026 : BitVec 32 := 12#32
  let v1558 : BitVec 32 := Scalar.addi v2 c12_i32_1026
  let c16_i32_1027 : BitVec 32 := 16#32
  let v1559 : BitVec 32 := Scalar.remsi v1558 c16_i32_1027
  let c1_i32_1031 : BitVec 32 := 1#32
  let v1561 : BitVec 32 := Scalar.muli v1559 c1_i32_1031
  let v1562 : BitVec 32 := Scalar.addi c0_i32_1032 v1561
  v1562.toNat
def k0_dev43 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1034 : BitVec 32 := 13#32
  let v1568 : BitVec 32 := Scalar.addi v2 c13_i32_1034
  let c16_i32_1035 : BitVec 32 := 16#32
  let v1569 : BitVec 32 := Scalar.remsi v1568 c16_i32_1035
  let c1_i32_1039 : BitVec 32 := 1#32
  let v1571 : BitVec 32 := Scalar.muli v1569 c1_i32_1039
  let v1572 : BitVec 32 := Scalar.addi c0_i32_1040 v1571
  v1572.toNat
def k0_dev44 (d0 : Dev nD) : Nat :=
  let c0_i32_1048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1042 : BitVec 32 := 14#32
  let v1578 : BitVec 32 := Scalar.addi v2 c14_i32_1042
  let c16_i32_1043 : BitVec 32 := 16#32
  let v1579 : BitVec 32 := Scalar.remsi v1578 c16_i32_1043
  let c1_i32_1047 : BitVec 32 := 1#32
  let v1581 : BitVec 32 := Scalar.muli v1579 c1_i32_1047
  let v1582 : BitVec 32 := Scalar.addi c0_i32_1048 v1581
  v1582.toNat
def k0_dev45 (d0 : Dev nD) : Nat :=
  let c0_i32_1056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1050 : BitVec 32 := 15#32
  let v1588 : BitVec 32 := Scalar.addi v2 c15_i32_1050
  let c16_i32_1051 : BitVec 32 := 16#32
  let v1589 : BitVec 32 := Scalar.remsi v1588 c16_i32_1051
  let c1_i32_1055 : BitVec 32 := 1#32
  let v1591 : BitVec 32 := Scalar.muli v1589 c1_i32_1055
  let v1592 : BitVec 32 := Scalar.addi c0_i32_1056 v1591
  v1592.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S1x128x1024x1024, .f32⟩
  | .hbm, ⟨51, _⟩ => ⟨S_, .f32⟩
  | .hbm, ⟨52, _⟩ => ⟨S1x128x1024x1024, .f32⟩
  | .hbm, ⟨53, _⟩ => ⟨S1x128x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S1x128x1024x1024, .i1⟩
  | .hbm, ⟨58, _⟩ => ⟨S1x128x1024x1024, .f32⟩
  | .hbm, ⟨59, _⟩ => ⟨S1x128x1024x1024, .f32⟩
  | .hbm, ⟨60, _⟩ => ⟨S_, .f32⟩
  | .hbm, ⟨61, _⟩ => ⟨S1x128x1024, .f32⟩
  | .hbm, ⟨62, _⟩ => ⟨S1x128x1024x1, .f32⟩
  | .hbm, ⟨63, _⟩ => ⟨S1x128x1024x1024, .f32⟩
  | .hbm, ⟨64, _⟩ => ⟨S1x128x1024x1024, .f32⟩
  | .hbm, ⟨65, _⟩ => ⟨S1x128x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x128x1024, .f32⟩
  | .hbm, ⟨71, _⟩ => ⟨S1x128x1024x1, .f32⟩
  | .hbm, ⟨72, _⟩ => ⟨S_, .f32⟩
  | .hbm, ⟨73, _⟩ => ⟨S_, .f32⟩
  | .hbm, ⟨74, _⟩ => ⟨S1x128x1024x1, .i1⟩
  | .hbm, ⟨75, _⟩ => ⟨S1x128x1024x1, .f32⟩
  | .hbm, ⟨76, _⟩ => ⟨S1x128x1024x1, .f32⟩
  | .hbm, ⟨77, _⟩ => ⟨S1x128x1024x1024, .f32⟩
  | .hbm, ⟨78, _⟩ => ⟨S1x128x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x128x1024x1024, .i1⟩
  | .hbm, ⟨83, _⟩ => ⟨S1x128x1024x1024, .f32⟩
  | .hbm, ⟨84, _⟩ => ⟨S1x128x1024x1024, .f32⟩
  | .hbm, ⟨85, _⟩ => ⟨S1x128x128x1024, .f32⟩
  | .hbm, ⟨86, _⟩ => ⟨S1x1024x128x128, .f32⟩
  | .hbm, ⟨87, _⟩ => ⟨S1x1024x16384, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Common.Stack.lean ====
module

public import Idealize.ShloMosaic.Lib.Memref
public import Idealize.ShloMosaic.Lib.ValueIdx

/-! # A square matrix as row blocks stacked

A matrix of 1024 rows is `n` blocks of `h` rows each. Reading one block's rows gives the block, and
writing them replaces it. -/

@[expose] public section

noncomputable section

namespace Cert.Own

open Idealize.ShloMosaic Idealize.ShloMosaic.ValueIdx

/-- The shape of a matrix of 1024 columns. -/
abbrev Rows (h : ℕ) : Shape := ⟨2, ![h, 1024]⟩

variable {α : Type} {n h : ℕ} (hp : 0 < h) (e : n * h = 1024)

/-- The block a row lies in. -/
def blockIx (x : (Rows 1024).Idx) : Fin n :=
  ⟨(x 0).val / h, Nat.div_lt_of_lt_mul (by have h0 : (x 0).val < 1024 := (x 0).isLt; rw [Nat.mul_comm, e]; exact h0)⟩
/-- The position inside the block. -/
def innerIx (x : (Rows 1024).Idx) : (Rows h).Idx := ix2 ⟨(x 0).val % h, Nat.mod_lt _ hp⟩ (x 1)

/-- The blocks `p` stacked. -/
def stack (p : Fin n → (Rows h).Idx → α) : (Rows 1024).Idx → α := fun x => p (blockIx e x) (innerIx hp x)

variable {off : Fin 2 → ℕ} {d : Fin n} (ho : off = ![h * d.val, 0])
  (inb : ∀ a : Fin 2, off a + (Rows h).size a ≤ (Rows 1024).size a)

include ho in
/-- Row `i` of block `d` lies in block `d`, at `i`. -/
theorem block_emb (i : (Rows h).Idx) :
    blockIx e ((Rect.unit (s := Rows 1024) off (Rows h).size inb).emb i) = d
      ∧ innerIx hp ((Rect.unit (s := Rows 1024) off (Rows h).size inb).emb i) = i := by
  subst ho
  have hi : (i 0).val < h := (i 0).isLt
  have h0 : ((Rect.unit (s := Rows 1024) ![h * d.val, 0] (Rows h).size inb).emb i 0).val = h * d.val + 1 * (i 0).val := rfl
  have h1 : ((Rect.unit (s := Rows 1024) ![h * d.val, 0] (Rows h).size inb).emb i 1).val = 0 + 1 * (i 1).val := rfl
  constructor
  · apply Fin.ext
    show _ / h = d.val
    rw [h0, one_mul, Nat.mul_add_div hp, Nat.div_eq_of_lt hi, Nat.add_zero]
  · funext a
    refine Fin.cases ?_ (fun a => Fin.cases ?_ (fun a => a.elim0) a) a
    · apply Fin.ext
      show _ % h = (i 0).val
      rw [h0, one_mul, Nat.mul_add_mod, Nat.mod_eq_of_lt hi]
    · apply Fin.ext
      show ((Rect.unit (s := Rows 1024) ![h * d.val, 0] (Rows h).size inb).emb i 1).val = (i 1).val
      rw [h1, one_mul, Nat.zero_add]

include ho in
/-- A row of block `d` is the block's row at its position inside. -/
theorem emb_inner (x : (Rows 1024).Idx) (hx : blockIx e x = d) :
    (Rect.unit (s := Rows 1024) off (Rows h).size inb).emb (innerIx hp x) = x := by
  subst ho
  have hd : (x 0).val / h = d.val := congrArg Fin.val hx
  funext a
  refine Fin.cases ?_ (fun a => Fin.cases ?_ (fun a => a.elim0) a) a
  · apply Fin.ext
    show h * d.val + 1 * ((x 0).val % h) = (x 0).val
    rw [one_mul, ← hd, Nat.div_add_mod]
  · apply Fin.ext
    show 0 + 1 * (x 1).val = (x 1).val
    rw [one_mul, Nat.zero_add]

include ho in
/-- Reading block `d` of a stack gives the block. -/
theorem stack_emb (p : Fin n → (Rows h).Idx → α) :
    (fun i => stack hp e p ((Rect.unit (s := Rows 1024) off (Rows h).size inb).emb i)) = p d := by
  funext i
  unfold stack
  rw [(block_emb hp e ho inb i).1, (block_emb hp e ho inb i).2]

include ho in
/-- Writing block `d` of a stack replaces the block. -/
theorem overlay_stack (p : Fin n → (Rows h).Idx → α) (w : (Rows h).Idx → α) :
    (Rect.unit (s := Rows 1024) off (Rows h).size inb).overlay (stack hp e p) w = stack hp e (Function.update p d w) := by
  funext x
  by_cases hx : x ∈ (Rect.unit (s := Rows 1024) off (Rows h).size inb).set
  · obtain ⟨i, rfl⟩ := (Rect.unit (s := Rows 1024) off (Rows h).size inb).exists_idx_of_mem hx
    refine (Rect.overlay_emb _ _ _ i).trans ?_
    exact ((congrFun (stack_emb hp e ho inb (Function.update p d w)) i).trans (by rw [Function.update_self])).symm
  · rw [Rect.overlay_of_not_mem _ _ _ hx]
    unfold stack
    rw [Function.update_of_ne]
    intro hb
    apply hx
    rw [← emb_inner hp e ho inb x hb, ← Rect.map_emb_univ]
    exact Finset.mem_map_of_mem _ (Finset.mem_univ _)

include e in
/-- The start of block `d`. -/
theorem off_inb (d : Fin n) : ∀ a : Fin 2, (![h * d.val, 0] : Fin 2 → ℕ) a + (Rows h).size a ≤ (Rows 1024).size a := by
  intro a
  refine Fin.cases ?_ (fun a => Fin.cases ?_ (fun a => a.elim0) a) a
  · show h * d.val + h ≤ 1024
    calc h * d.val + h = h * (d.val + 1) := by ring
      _ ≤ h * n := Nat.mul_le_mul_left _ d.isLt
      _ = 1024 := by rw [Nat.mul_comm]; exact e
  · show 0 + 1024 ≤ 1024
    exact le_refl _

/-- Every matrix is a stack of its blocks. -/
theorem exists_stack (X : (Rows 1024).Idx → α) : ∃ p, X = stack hp e p :=
  ⟨fun d i => X ((Rect.unit (s := Rows 1024) ![h * d.val, 0] (Rows h).size (off_inb e d)).emb i), by
    funext x
    exact (congrArg X (emb_inner hp e (d := blockIx e x) rfl (off_inb e _) x rfl)).symm⟩

/-- The rectangle of a whole shape places every index at itself. -/
theorem unit_whole_emb {s : Shape} {off : Fin s.rank → ℕ} (ho : off = fun _ => 0) (inb : ∀ a, off a + s.size a ≤ s.size a)
    (i : s.Idx) : (Rect.unit (s := s) off s.size inb).emb i = i := by
  subst ho
  funext a
  apply Fin.ext
  show 0 + 1 * (i a).val = (i a).val
  rw [one_mul, Nat.zero_add]

/-- Writing a whole shape replaces everything. -/
theorem overlay_whole {s : Shape} {off : Fin s.rank → ℕ} (ho : off = fun _ => 0) (inb : ∀ a, off a + s.size a ≤ s.size a)
    (X w : s.Idx → α) : (Rect.unit (s := s) off s.size inb).overlay X w = w := by
  funext i
  have h := Rect.overlay_emb (Rect.unit (s := s) off s.size inb) X w i
  rwa [unit_whole_emb ho inb i] at h

end Cert.Own

end
-- ==== Proof.Common.Mem.lean ====
module

public import Idealize.ShloMosaic.Lib.Memref
public import Idealize.ShloMosaic.Lib.MemrefSat
public import Idealize.ShloMosaic.Lib.Rounds
public import Idealize.ShloMosaic.Lib.Tactic

/-! # Loads, stores and copies of owned memrefs

The memory steps of the kernel, stated over `owns`: a memref owned at contents is loaded through a
rectangle, stored through a rectangle, loaded and stored through the slot it is, and sent. -/

@[expose] public section

noncomputable section

namespace Cert.Own

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} (𝒱 : Variants) (c : Thread nD τ) (bd : Option 𝒱.V)
  (E : Set Name)
variable {s : Shape} {e : EltTy} {α : Type}

local notation "𝕄" => MT nD τ sig Ix Val Name U Lvl

variable {Q : α → sProp (MT nD τ sig Ix Val Name U Lvl)}

/-- A load through a rectangle of an owned memref gives its contents there. -/
theorem owns_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun i => X (r.emb i)) Q)
        -∗ wp frame (wpE defs 𝒱 c bd) E (.op (.load m r.toLoadRect hl) k) Q) := by
  iintro H Hk
  ihave H' := (show owns c m q X ⊢ iprop(∃ g, ⌜m.view.read Val g = X⌝ ∗ m.view.loc c ↦[m.view.set]{q} g) from .rfl) $$ H
  icases H' with ⟨%g, %hg, H⟩
  iapply (wp_load_rect 𝒱 c bd E (m := m) (r := r) (S := m.view.set) (m.view.set_slice_subset r)) $$ H
  iintro H
  rw [show (m.access r).read Val g = fun i => X (r.emb i) from by rw [← hg]; rfl]
  iapply Hk
  rw [← hg]
  iapply (owns_intro c m q g) $$ H

/-- An unmasked store through a rectangle of an owned memref replaces its contents there. -/
theorem owns_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  iapply (wp_store 𝒱 c bd E (m := m) (r := r) (w := w) (Mk := Finset.univ) (S := m.view.set) (m.view.set_slice_subset r)) $$ H
  iintro H
  iapply Hk
  have hread : m.view.read Val ((m.access r).write Val g w Finset.univ) = r.overlay X w := by
    funext j
    by_cases hj : j ∈ r.set
    · obtain ⟨i, rfl⟩ := r.exists_idx_of_mem hj
      change m.view.read Val _ (r.emb i) = r.overlay _ w (r.emb i)
      rw [Rect.overlay_emb]
      exact congrFun (View.read_write_univ (v := m.access r) g w) i
    · rw [Rect.overlay_of_not_mem _ _ _ hj, ← hg, View.read_apply, View.read_apply, View.write_of_not_mem]
      show m.view.emb j ∉ (m.view.slice r).setOn Finset.univ
      rw [View.setOn_univ, View.set_slice, Finset.mem_map' m.view.emb]; exact hj
  rw [← hread]
  iapply (owns_intro c m fullShare _) $$ H

omit [DecidableEq Ix] [DecidableEq Name] [URA U] in
/-- A slot's elements are its rectangle's. -/
theorem squeeze_set {cs : CoreSpace} (m : Memref sig c.2.kind cs s e) (r : Rect s) (hr : ∀ a, r.stride a = 1) {s' : Shape}
    (hs : r.shape.Squeezes s') : ((m.slice r hr).squeeze s' hs).view.set = (m.access r).set :=
  View.set_reshape _ _

/-- A load of a slot through the buffer it is a slot of. -/
theorem owns_load_slot {cs : CoreSpace} {m : Memref sig c.2.kind cs s e} {r : Rect s} {hr : ∀ a, r.stride a = 1} {s' : Shape}
    {hs : r.shape.Squeezes s'} {hl : m.view.LoadsAt r.toLoadRect}
    {k : (r.shape.Idx → Val e) → Prog (TpuEff nD τ sig Val Λ c.2) α} {q : PosShare TreeShare} {X : s'.Idx → Val e} :
    (owns c ((m.slice r hr).squeeze s' hs) q X : sProp 𝕄)
      ⊢ iprop((owns c ((m.slice r hr).squeeze s' hs) q X
            -∗ wp frame (wpE defs 𝒱 c bd) E (k fun i => X ((Shape.reshapeEquiv hs.numel_eq).symm i)) Q)
        -∗ wp frame (wpE defs 𝒱 c bd) E (.op (.load m r.toLoadRect hl) k) Q) := by
  iintro H Hk
  ihave H' := (show owns c ((m.slice r hr).squeeze s' hs) q X ⊢ iprop(∃ g, ⌜((m.slice r hr).squeeze s' hs).view.read Val g = X⌝
      ∗ ((m.slice r hr).squeeze s' hs).view.loc c ↦[((m.slice r hr).squeeze s' hs).view.set]{q} g) from .rfl) $$ H
  icases H' with ⟨%g, %hg, H⟩
  iapply (wp_load_rect 𝒱 c bd E (m := m) (r := r) (S := ((m.slice r hr).squeeze s' hs).view.set) (f := g)
    (squeeze_set c m r hr hs).symm.subset) $$ H
  iintro H
  rw [show (m.access r).read Val g = fun i => X ((Shape.reshapeEquiv hs.numel_eq).symm i) from by
    rw [← hg]; funext i
    show _ = (m.access r).read Val g (Shape.reshapeEquiv hs.numel_eq ((Shape.reshapeEquiv hs.numel_eq).symm i))
    rw [Equiv.apply_symm_apply]]
  iapply Hk
  rw [← hg]
  iapply (owns_intro c ((m.slice r hr).squeeze s' hs) q g) $$ H

/-- A store of a slot through the buffer it is a slot of. -/
theorem owns_store_slot {cs : CoreSpace} {m : Memref sig c.2.kind cs s e} {r : Rect s} {hr : ∀ a, r.stride a = 1} {s' : Shape}
    {hs : r.shape.Squeezes s'} {w : r.shape.Idx → Val e}
    {hx : (m.access r).Stores Finset.univ} {hm : Finset.univ = Finset.univ ∨ ∀ a, r.stride a = 1}
    {k : PUnit → Prog (TpuEff nD τ sig Val Λ c.2) α} {X : s'.Idx → Val e} :
    (owns c ((m.slice r hr).squeeze s' hs) fullShare X : sProp 𝕄)
      ⊢ iprop((owns c ((m.slice r hr).squeeze s' hs) fullShare (fun i => w (Shape.reshapeEquiv hs.numel_eq i))
            -∗ wp frame (wpE defs 𝒱 c bd) E (k ⟨⟩) Q)
        -∗ wp frame (wpE defs 𝒱 c bd) E (.op (.store m r w Finset.univ hx hm) k) Q) := by
  iintro H Hk
  ihave H' := (show owns c ((m.slice r hr).squeeze s' hs) fullShare X ⊢ iprop(∃ g, ⌜((m.slice r hr).squeeze s' hs).view.read Val g = X⌝
      ∗ ((m.slice r hr).squeeze s' hs).view.loc c ↦[((m.slice r hr).squeeze s' hs).view.set]{fullShare} g) from .rfl) $$ H
  icases H' with ⟨%g, %hg, H⟩
  iapply (wp_store 𝒱 c bd E (m := m) (r := r) (w := w) (Mk := Finset.univ) (S := ((m.slice r hr).squeeze s' hs).view.set) (f := g)
    (squeeze_set c m r hr hs).symm.subset) $$ H
  iintro H
  iapply Hk
  rw [show (fun i => w (Shape.reshapeEquiv hs.numel_eq i))
      = ((m.slice r hr).squeeze s' hs).view.read Val ((m.access r).write Val g w Finset.univ) from by
    funext i
    exact (congrFun (View.read_write_univ (v := m.access r) g w) (Shape.reshapeEquiv hs.numel_eq i)).symm]
  iapply (owns_intro c ((m.slice r hr).squeeze s' hs) fullShare _) $$ H

variable {D : Type} [DecidableEq D] (EE : Emb (URounds (GSem nD τ sig) D) (MT nD τ sig Ix Val Name U Lvl))
  [EE.LandsIn (upEmb : UEmb _ (MT nD τ sig Ix Val Name U Lvl))] (Rd : Schedule (GSem nD τ sig) D (MT nD τ sig Ix Val Name U Lvl))
  [∀ g r d, Storable (upEmb : UEmb _ (MT nD τ sig Ix Val Name U Lvl)) (Rd.payload g r d)]

/-- A copy to another device: the source's share pays the source cell's duty, the destination, at the
    source's contents, pays the receive cell's. -/
theorem owns_send {sp sp' : Space} {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {d₁ d₂ : D} {κ₁ κ₂ : Name}
    (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : owns c src q X ⊢ Rd.payload (c, sS) 0 d₁)
    (hpay₂ : owns c' dst fullShare X ⊢ Rd.payload (c', sem) 0 d₂) (hr : τ.routes c c' = true := by routes) :
    iprop(cellInv EE Rd κ₁ (c, sS) ∗ cellInv EE Rd κ₂ (c', sem)
        ∗ owns c src q X ∗ (∃ Y, owns c' dst fullShare Y)
        ∗ owes c O₀ W
        ∗ dutyTok EE (c, sS) 0 d₁ ∗ reached EE (c, sS) 0
        ∗ dutyTok EE (c', sem) 0 d₂ ∗ reached EE (c', sem) 0)
      ⊢ iprop(((cred (tallyAt (c, sS) ι N) ∗ owes c O W) -∗ wp frame (wpE defs 𝒱 c bd) E (k ⟨⟩) Q)
          -∗ wp frame (wpE defs 𝒱 c bd) E (.op (.enqueueDma src (.remote c' dst sS hsc) sem hsrc hdst hsem) k) Q) := by
  iintro ⟨#HI₁, #HI₂, Hs, ⟨%Y, Hd⟩, HO, HT₁, #HR₁, HT₂, #HR₂⟩ Hk
  ihave Hs' := (show owns c src q X ⊢ iprop(∃ g, ⌜src.view.read Val g = X⌝ ∗ src.view.loc c ↦[src.view.set]{q} g) from .rfl) $$ Hs
  icases Hs' with ⟨%fs, %hfs, Hs⟩
  ihave Hd' := (show owns c' dst fullShare Y ⊢ iprop(∃ g, ⌜dst.view.read Val g = Y⌝ ∗ dst.view.loc c' ↦[dst.view.set]{fullShare} g) from .rfl) $$ Hd
  icases Hd' with ⟨%fd, %hfd, Hd⟩
  have e1 : (src.view.loc c ↦[src.view.set]{q} fs : sProp 𝕄) ⊢ Rd.payload (c, sS) 0 d₁ := by
    refine (owns_intro c src q fs).trans ?_
    rw [hfs]; exact hpay₁
  have e2 : (dst.view.loc c' ↦[dst.view.set]{fullShare} (dst.view.write Val fd (src.view.read Val fs) Finset.univ) : sProp 𝕄)
      ⊢ Rd.payload (c', sem) 0 d₂ := by
    refine (owns_intro c' dst fullShare _).trans ?_
    rw [View.read_write_univ, hfs]; exact hpay₂
  iapply (Rounds.wp_send_pointsTo 𝒱 EE Rd c bd (c' := c') (src := src) (dst := dst) (sS := sS) (sem := sem) (q := q) (fs := fs) (fd := fd)
    (r₁ := 0) (r₂ := 0) (d₁ := d₁) (d₂ := d₂) (κ₁ := κ₁) (κ₂ := κ₂) hd₁ hd₂ ι ι N hN hk₁ hk₂ O hO (W := W) e1 e2 hr)
    $$ [Hs Hd HO HT₁ HT₂]
  · isplitr; · iexact HI₁
    isplitr; · iexact HI₂
    isplitl [Hs]; · iexact Hs
    isplitl [Hd]; · iexact Hd
    isplitl [HO]; · iexact HO
    isplitl [HT₁]; · iexact HT₁
    isplitr; · iexact HR₁
    isplitl [HT₂]; · iexact HT₂
    iexact HR₂
  iexact Hk

end Cert.Own

end
-- ==== Proof.Common.Split.lean ====
module

public import Idealize.ShloMosaic.Lib.Memref
public import Idealize.ShloMosaic.Lib.MemrefSat
public import Idealize.ShloMosaic.Lib.Pipeline.BigSepL
public import Idealize.ShloMosaic.Lib.Rounds
public import Idealize.ShloMosaic.Lib.Tactic

/-! # Buffers split into rectangles, at contents not chosen -/

@[expose] public section

noncomputable section

namespace Cert.Own

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} [Preorder Lvl] (c : Thread nD τ)
variable {sp : Space} {s : Shape} {e : EltTy}

local notation "𝕄" => MT nD τ sig Ix Val Name U Lvl

/-- A slot owned as the chunk it is, or as a buffer's row. -/
theorem owns_squeeze (m : Memref sig c.2.kind sp s e) {s' : Shape} (h : s.Squeezes s') (q : PosShare TreeShare) (X : s'.Idx → Val e) :
    (owns c (m.squeeze s' h) q X : sProp 𝕄) ⊣⊢ owns c m q (fun i => X ((Shape.reshapeEquiv h.numel_eq).symm i)) := by
  have hset : (m.squeeze s' h).view.set = m.view.set := View.set_reshape _ _
  constructor
  · iintro H
    ihave H' := (show owns c (m.squeeze s' h) q X ⊢ iprop(∃ g, ⌜(m.squeeze s' h).view.read Val g = X⌝
      ∗ (m.squeeze s' h).view.loc c ↦[(m.squeeze s' h).view.set]{q} g) from .rfl) $$ H
    icases H' with ⟨%g, %hg, H⟩
    have hX : (fun i => X ((Shape.reshapeEquiv h.numel_eq).symm i)) = m.view.read Val g := by
      rw [← hg]; funext i
      show m.view.read Val g (Shape.reshapeEquiv h.numel_eq ((Shape.reshapeEquiv h.numel_eq).symm i)) = _
      rw [Equiv.apply_symm_apply]
    rw [hX]
    iapply (owns_intro c m q g)
    rw [← hset]
    iexact H
  · iintro H
    ihave H' := (show owns c m q (fun i => X ((Shape.reshapeEquiv h.numel_eq).symm i))
      ⊢ iprop(∃ g, ⌜m.view.read Val g = fun i => X ((Shape.reshapeEquiv h.numel_eq).symm i)⌝ ∗ m.view.loc c ↦[m.view.set]{q} g) from .rfl) $$ H
    icases H' with ⟨%g, %hg, H⟩
    have hX : X = (m.squeeze s' h).view.read Val g := by
      funext i
      show X i = m.view.read Val g (Shape.reshapeEquiv h.numel_eq i)
      rw [hg]; dsimp only; rw [Equiv.symm_apply_apply]
    rw [hX]
    iapply (owns_intro c (m.squeeze s' h) q g)
    rw [hset]
    iexact H

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)

omit [DecidableEq T] in
include hd hcov in
/-- A buffer at some contents is its rectangles, each at some contents. -/
theorem any_rects (m : Memref sig c.2.kind sp s e) (q : PosShare TreeShare) :
    (iprop(∃ X, owns c m q X) : sProp 𝕄)
      ⊢ bigSep Finset.univ fun t => iprop(∃ Y, owns c (m.slice (r t) (hr t)) q Y) := by
  iintro ⟨%X, H⟩
  iapply ((owns_rects c m q r hr hd hcov X).trans (bigSep_mono fun t _ => show owns c (m.slice (r t) (hr t)) q (fun j => X ((r t).emb j))
    ⊢ iprop(∃ Y, owns c (m.slice (r t) (hr t)) q Y) from by iintro H; iexists _; iexact H)) $$ H

include hd hcov in
/-- And back. -/
theorem any_of_rects [∀ e, Nonempty (Val e)] (m : Memref sig c.2.kind sp s e) (q : PosShare TreeShare) :
    (bigSep Finset.univ fun t => iprop(∃ Y, owns c (m.slice (r t) (hr t)) q Y))
      ⊢ (iprop(∃ X, owns c m q X) : sProp 𝕄) := by
  refine (bigSep_exists_pi Finset.univ fun t (Y : (r t).shape.Idx → Val e) => owns c (m.slice (r t) (hr t)) q Y).trans ?_
  iintro ⟨%Y, H⟩
  iexists Rect.glue r hcov Y
  iapply ((show (bigSep Finset.univ fun t => owns c (m.slice (r t) (hr t)) q (Y t))
      ⊢ (bigSep Finset.univ fun t => owns c (m.slice (r t) (hr t)) q (fun j => Rect.glue r hcov Y ((r t).emb j)) : sProp 𝕄) from
    bigSep_mono fun t _ => Entails.of_eq (congrArg (owns c (m.slice (r t) (hr t)) q) (funext fun j => (Rect.glue_emb r hcov hd Y t j).symm))).trans
      (owns_of_rects c m q r hr hd hcov (Rect.glue r hcov Y))) $$ H

/-! ## Lists of resources -/

section Lists

variable {M : Type} [URA M] {I : Type}

/-- Two resources at every position. -/
theorem bigSepL_sep (l : List I) (Φ Ψ : I → sProp M) :
    bigSepL l (fun i => iprop(Φ i ∗ Ψ i)) ⊣⊢ iprop(bigSepL l Φ ∗ bigSepL l Ψ) := by
  induction l with
  | nil =>
    rw [bigSepL_nil, bigSepL_nil, bigSepL_nil]
    constructor
    · iintro -; isplitr <;> iempintro
    · iintro -; iempintro
  | cons i l ih =>
    rw [bigSepL_cons', bigSepL_cons', bigSepL_cons']
    constructor
    · iintro ⟨⟨H1, H2⟩, Hl⟩
      ihave Hl := ih.1 $$ Hl
      icases Hl with ⟨Ha, Hb⟩
      isplitl [H1 Ha]
      · isplitl [H1] <;> iassumption
      isplitl [H2] <;> iassumption
    · iintro ⟨⟨H1, Ha⟩, ⟨H2, Hb⟩⟩
      isplitl [H1 H2]
      · isplitl [H1] <;> iassumption
      iapply ih.2
      isplitl [Ha] <;> iassumption

/-- The same as an equality. -/
theorem bigSepL_sep_eq (l : List I) (Φ Ψ : I → sProp M) :
    bigSepL l (fun i => iprop(Φ i ∗ Ψ i)) = iprop(bigSepL l Φ ∗ bigSepL l Ψ) := equiv_iff.mp ⟨(bigSepL_sep l Φ Ψ).1, (bigSepL_sep l Φ Ψ).2⟩

instance bigSepL_persistent (l : List I) (Φ : I → sProp M) [∀ i, Persistent (Φ i)] : Persistent (bigSepL l Φ) := by
  induction l with
  | nil => exact (inferInstance : Persistent (iprop(emp) : sProp M))
  | cons i l ih => rw [bigSepL_cons']; infer_instance

/-- A persistent resource used at every position. -/
theorem bigSepL_with {P : sProp M} [Persistent P] {Φ Ψ : I → sProp M} (h : ∀ i, iprop(P ∗ Φ i) ⊢ Ψ i) :
    ∀ l : List I, iprop(P ∗ bigSepL l Φ) ⊢ bigSepL l Ψ
  | [] => by
    rw [bigSepL_nil, bigSepL_nil]
    iintro ⟨-, -⟩; iempintro
  | i :: l => by
    rw [bigSepL_cons', bigSepL_cons']
    iintro ⟨#HP, HΦ, Hl⟩
    isplitl [HΦ]
    · iapply (h i)
      isplitr; · iexact HP
      iexact HΦ
    · iapply (bigSepL_with h l)
      isplitr; · iexact HP
      iexact Hl

/-- All of a finite type, listed twice. -/
theorem bigSepL_relist [Fintype I] [DecidableEq I] {l l' : List I} (h : Finset.univ = l.toFinset) (hl : l.Nodup)
    (h' : Finset.univ = l'.toFinset) (hl' : l'.Nodup) (Φ : I → sProp M) : bigSepL l Φ = bigSepL l' Φ :=
  (bigSep_univ_eq_bigSepL l h hl Φ).symm.trans (bigSep_univ_eq_bigSepL l' h' hl' Φ)

end Lists

end Cert.Own

end
-- ==== Proof.Kernel.ProgEq.lean ====
module

public import proofs.«01_k».proof.Proof.Kernel.Prog
public import Idealize.ShloMosaic.Lib.Pipeline.Regions

/-! # The loops are the printed body -/

@[expose] public section

set_option synthInstance.maxSize 4096

noncomputable section

namespace Cert.Kernel.Own

open Idealize.ShloMosaic Idealize.ShloMosaic.TcCoe Idealize.SL.Sem
open Cert.Kernel Cert.Kernel.Gen

variable {F : FTy → Type} [FloatOps F]

set_option maxRecDepth 65536 in
/-- The printed body is the loops: by definitional unfolding. -/
theorem body_eq (A : Args) :
    (cc0_body A.a0 A.h0 A.a1 A.h1 A.a2 A.h2 A.a3 A.h3 A.a4 A.h4 A.a5 A.h5 A.a6 A.h6 A.a7 A.h7 A.a8 A.h8 A.a9 A.h9
      A.a10 A.a11 A.a12 A.a13 : P F) = body A := by
  chain_rfl

end Cert.Kernel.Own
-- ==== Proof.Common.Window.lean ====
module

public import Idealize.ShloMosaic.Lib.Pipeline.Kit

/-! # A window that is the whole array -/

@[expose] public section

noncomputable section

namespace Cert.Own

open Idealize.ShloMosaic Idealize.ShloMosaic.TcCoe Idealize.ShloMosaic.Pipeline

variable {sig : RefSig} {s : Shape} {e : EltTy} {cs : CoreSpace} (arr : Memref sig .tc .hbm s e) (isOut sync : Bool)
  (stage : Memref sig .tc (.core cs) ⟨s.rank, s.size⟩ e) (sem : DmaSem sig) (harr : arr.IsWhole) (hstage : stage.IsWhole)
  (Val : EltTy → Type)

/-- Fetching the array fetches what it holds, whatever the buffer held. -/
theorem fetch_whole (t : Fin Grid.none.N) (f : arr.view.ty.Contents Val) (d) :
    (Window.whole arr isOut sync stage sem harr hstage).fill (Grid.none.coords t) d
        (((Window.whole arr isOut sync stage sem harr hstage).blk t).view.read Val f) = arr.view.read Val f := by
  funext j
  unfold Window.fill
  rw [dif_pos ((Window.moved_iff _ _ _).mpr fun a => (j a).isLt)]
  refine congrArg (fun i => arr.view.read Val f i) (funext fun a => Fin.ext ?_)
  show 0 * s.size a + 1 * (j a).val = (j a).val
  omega

/-- Writing the block back leaves the array at what was written. -/
theorem write_whole (t : Fin Grid.none.N) (f : arr.view.ty.Contents Val) (g) :
    arr.view.read Val (((Window.whole arr isOut sync stage sem harr hstage).blk t).view.write Val f g Finset.univ) = g := by
  refine Eq.trans ?_ (View.read_write_univ (v := ((Window.whole arr isOut sync stage sem harr hstage).blk t).view) f g)
  funext j
  refine congrArg (fun i => arr.view.read Val _ i) (funext fun a => Fin.ext ?_)
  show (j a).val = 0 * s.size a + 1 * (j a).val
  omega

end Cert.Own
-- ==== Proof.KernelIdeal.Vals.lean ====
module

public import proofs.«01_k».proof.Proof.Gen.KernelIdeal.Skeleton

/-! # The values one device computes

The kernel's body is straight-line code; its eight heads times four row blocks are one formula at
different positions. This module states that formula once: the attention of one head over one block
of query rows, the block's output projection, and the casts between the phases. -/

@[expose] public section

set_option synthInstance.maxSize 4096

noncomputable section

namespace Cert.KernelIdeal.Own

open Idealize.ShloMosaic Idealize.SL.Sem
open Cert.KernelIdeal Cert.KernelIdeal.Gen

variable {F : FTy → Type} [FloatOps F] [Named F]

/-- How many keys row block `b` looks at: the keys up to the block's last query row. -/
abbrev keys (b : Fin 4) : ℕ := 256 * (b.val + 1)

/-- The first query row of block `b`. -/
abbrev row0 (b : Fin 4) : ℕ := 256 * b.val

/-- A weight matrix of block `b`. -/
abbrev SW (b : Fin 4) : Shape := ⟨2, ![256, keys b]⟩
/-- The keys (or values) of one head that block `b` looks at. -/
abbrev SK (b : Fin 4) : Shape := ⟨2, ![keys b, 128]⟩
/-- The same with the head's axis kept. -/
abbrev SK1 (b : Fin 4) : Shape := ⟨3, ![1, keys b, 128]⟩

/-- Dropping the head's axis. -/
theorem casts_SK : ∀ b, (SK1 b).ShapeCasts (SK b) := by decide
/-- A row's maximum or sum runs along the keys. -/
theorem reduces_SW : ∀ b, (SW b).Reduces [1] S256 := by decide
/-- A column is spread along the keys. -/
theorem broadcasts_SW : ∀ b, S256x1.Broadcasts (SW b) := by decide
/-- Head `h` of block `b` is a tile of the query matrix. -/
theorem slices_Q : ∀ (b : Fin 4) (h : Fin 8), S1024x1024.Slices ![row0 b, 128 * h.val] S256x128 := by decide

/-- The value the kernel writes over a masked score. -/
def maskV : F .f32 := Named.named κ "mask" 0xCE6E6B28#32

/-- The mask of the diagonal block: key chunk at most query chunk. -/
def tri : IVec S256x256 1 :=
  k0_pay8 (k0_pay4 (iota .tc S256x256 32 [1] iota_S256x256_d1_w32) 64#32 k0_pay3) k0_pay5 k0_pay6 k0_pay7

/-- The mask of block `b`: everything before the diagonal block, and the diagonal block's mask. -/
def msk : (b : Fin 4) → IVec (SW b) 1
  | 0 => tri
  | 1 => concatenate S256x512 1 [⟨S256x256, broadcast S256x256 1#1⟩, ⟨S256x256, tri⟩] concatenates_S256x256_S256x256_S256x512_d1
  | 2 => concatenate S256x768 1 [⟨S256x512, broadcast S256x512 1#1⟩, ⟨S256x256, tri⟩] concatenates_S256x512_S256x256_S256x768_d1
  | 3 => concatenate S256x1024 1 [⟨S256x768, broadcast S256x768 1#1⟩, ⟨S256x256, tri⟩] concatenates_S256x768_S256x256_S256x1024_d1

/-- The masked scores of head `h` on block `b`. -/
def scores (b : Fin 4) (h : Fin 8) (Q : FVec F S1024x1024 .f32) (k : Vec F (SK1 b) .f32) : FVec F (SW b) .f32 :=
  select (msk b)
    (mulf (matmul (DotDims.transposedRhs 256 128 (keys b)) none
        (truncf .bf16 (extractStridedSlice S256x128 ![row0 b, 128 * h.val] Q (slices_Q b h)) bitsLt_bf16_f32)
        (truncf .bf16 (shapeCast (SK b) k (casts_SK b)) bitsLt_bf16_f32)
        (constant (SW b) .f32 0x00000000#32))
      (broadcast (SW b) (Scalar.ofBits .f32 0x3DB504F3#32)))
    (broadcast (SW b) maskV)

/-- A score matrix shifted by its rows' maxima and exponentiated. -/
def expd (b : Fin 4) (s : FVec F (SW b) .f32) : FVec F (SW b) .f32 :=
  exp (subf s (broadcastTo (SW b)
    (shapeCast S256x1 (multiReduction .maximumf [1] S256 s 0xFF800000#32 (reduces_SW b) (.inl rfl) rfl) shapeCasts_S256_S256x1)
    (broadcasts_SW b)))

/-- A weight matrix divided by its rows' sums. -/
def normed (b : Fin 4) (e : FVec F (SW b) .f32) : FVec F (SW b) .f32 :=
  divf e (broadcastTo (SW b)
    (shapeCast S256x1 (multiReduction .add [1] S256 e 0x00000000#32 (reduces_SW b) (.inl rfl) rfl) shapeCasts_S256_S256x1)
    (broadcasts_SW b))

/-- The attention of head `h` on block `b`. -/
def headOut (b : Fin 4) (h : Fin 8) (Q : FVec F S1024x1024 .f32) (k v : Vec F (SK1 b) .f32) : FVec F S256x128 .f32 :=
  matmul (DotDims.plain 256 (keys b) 128) none
    (truncf .bf16 (normed b (expd b (scores b h Q k))) bitsLt_bf16_f32)
    (truncf .bf16 (shapeCast (SK b) v (casts_SK b)) bitsLt_bf16_f32)
    (constant S256x128 .f32 0x00000000#32)

/-- Block `b` of the device's partial output: the eight heads side by side, projected. -/
def blockOut (b : Fin 4) (Q : FVec F S1024x1024 .f32) (wo : FVec F S1024x1024 .bf16)
    (k v : Fin 8 → Vec F (SK1 b) .f32) : FVec F S256x1024 .f32 :=
  matmul (DotDims.plain 256 1024 1024) none
    (truncf .bf16 (concatenate S256x1024 1
        [⟨S256x128, headOut b 0 Q (k 0) (v 0)⟩, ⟨S256x128, headOut b 1 Q (k 1) (v 1)⟩,
          ⟨S256x128, headOut b 2 Q (k 2) (v 2)⟩, ⟨S256x128, headOut b 3 Q (k 3) (v 3)⟩,
          ⟨S256x128, headOut b 4 Q (k 4) (v 4)⟩, ⟨S256x128, headOut b 5 Q (k 5) (v 5)⟩,
          ⟨S256x128, headOut b 6 Q (k 6) (v 6)⟩, ⟨S256x128, headOut b 7 Q (k 7) (v 7)⟩]
        concatenates_S256x128_S256x128_S256x128_S256x128_S256x128_S256x128_S256x128_S256x128_S256x1024_d1)
      bitsLt_bf16_f32)
    wo (constant S256x1024 .f32 0x00000000#32)

/-- The cast of a partial chunk that one copy carries to its peer, as a row of the staging buffer. -/
def slotOf (p : Vec F S64x1024 .f32) : FVec F S1x64x1024 .bf16 :=
  shapeCast S1x64x1024 (truncf .bf16 (shapeCast S64x1024 p shapeCasts_S64x1024_S64x1024) bitsLt_bf16_f32)
    shapeCasts_S64x1024_S1x64x1024

/-- The accumulator's first value: the device's own partial chunk. -/
def acc0 (p : Vec F S64x1024 .f32) : FVec F S64x1024 .f32 := shapeCast S64x1024 p shapeCasts_S64x1024_S64x1024

/-- One received chunk added to the accumulator. -/
def accStep (a : FVec F S64x1024 .f32) (g : Vec F S1x64x1024 .bf16) : FVec F S64x1024 .f32 :=
  addf a (extf .f32 (shapeCast S64x1024 g shapeCasts_S1x64x1024_S64x1024) bitsLt_bf16_f32)

/-- The reduced chunk as the second round of copies carries it. -/
def redOf (a : FVec F S64x1024 .f32) : FVec F S64x1024 .bf16 :=
  shapeCast S64x1024 (truncf .bf16 a bitsLt_bf16_f32) shapeCasts_S64x1024_S64x1024

end Cert.KernelIdeal.Own
-- ==== Proof.KernelIdeal.Prog.lean ====
module

public import proofs.«01_k».proof.Proof.KernelIdeal.Vals

/-! # The kernel's body, read as loops

The printed body is one straight line of about 3300 statements. Here the same operations are
written as what they are — fifteen signals, one wait, four row blocks of eight heads, fifteen
copies out, fifteen chunks in, fifteen copies out again, fifteen chunks in, and the waits that
drain the sends — and `body_eq` says that this is the printed body. -/

@[expose] public section

set_option synthInstance.maxSize 4096

noncomputable section

namespace Cert.KernelIdeal.Own

open Idealize.ShloMosaic Idealize.ShloMosaic.TcCoe Idealize.SL.Sem
open Cert.KernelIdeal Cert.KernelIdeal.Gen

variable {F : FTy → Type} [FloatOps F] [Named F]

/-- The programs of this kernel's TensorCore. -/
abbrev P (F : FTy → Type) [FloatOps F] [Named F] := Prog (TpuEff nD τ sig (Elt F) Λ₀ .tc) PUnit

/-- What the body is called with: the six windows' staging buffers, the four scratch buffers and
    the four families of copy semaphores. -/
structure Args where
  a0 : Memref sig .tc .vmem S1024x1024 .f32
  h0 : a0.IsWhole
  a1 : Memref sig .tc .vmem S1024x1024 .f32
  h1 : a1.IsWhole
  a2 : Memref sig .tc .vmem S8x1024x128 .f32
  h2 : a2.IsWhole
  a3 : Memref sig .tc .vmem S8x1024x128 .f32
  h3 : a3.IsWhole
  a4 : Memref sig .tc .vmem S1024x1024 .f32
  h4 : a4.IsWhole
  a5 : Memref sig .tc .vmem S1024x1024 .f32
  h5 : a5.IsWhole
  a6 : Memref sig .tc .vmem S15x64x1024 .bf16
  h6 : a6.IsWhole
  a7 : Memref sig .tc .vmem S15x64x1024 .bf16
  h7 : a7.IsWhole
  a8 : Memref sig .tc .vmem S1024x1024 .bf16
  h8 : a8.IsWhole
  a9 : Memref sig .tc .vmem S64x1024 .bf16
  h9 : a9.IsWhole
  a10 : DmaSems sig S15
  a11 : DmaSems sig S15
  a12 : DmaSems sig S15
  a13 : DmaSems sig S15

/-! ## Positions -/

/-- Head `h`'s first keys lie inside the key buffer. -/
theorem inb_KV : ∀ (b : Fin 4) (h : Fin 8) (a : Fin 3),
    (![h.val, 0, 0] : Fin 3 → ℕ) a + (SK1 b).size a ≤ S8x1024x128.size a := by decide
/-- A head's keys are some. -/
theorem pos_KV : ∀ b : Fin 4, 0 < (SK1 b).numel := by decide
/-- Block `b`'s rows lie inside the output. -/
theorem inb_rows : ∀ (b : Fin 4) (a : Fin 2),
    (![row0 b, 0] : Fin 2 → ℕ) a + S256x1024.size a ≤ S1024x1024.size a := by decide
/-- Slot `j` lies inside a buffer of fifteen chunks. -/
theorem inb_slot : ∀ (j : Fin 15) (a : Fin 3),
    (![j.val, 0, 0] : Fin 3 → ℕ) a + S1x64x1024.size a ≤ S15x64x1024.size a := by decide
/-- Semaphore `j` lies inside its family. -/
theorem inb_sem : ∀ (j : Fin 15) (a : Fin 1), (![j.val] : Fin 1 → ℕ) a + S1.size a ≤ S15.size a := by decide

/-- The first keys of head `h`, as many as block `b` looks at. -/
abbrev rKV (b : Fin 4) (h : Fin 8) : Rect S8x1024x128 :=
  Rect.unit (s := S8x1024x128) ![h.val, 0, 0] (SK1 b).size (inb_KV b h)
/-- The rows of block `b`. -/
abbrev rRows (b : Fin 4) : Rect S1024x1024 := Rect.unit (s := S1024x1024) ![row0 b, 0] S256x1024.size (inb_rows b)
/-- Slot `j` of a buffer of fifteen chunks. -/
abbrev rSlot (j : Fin 15) : Rect S15x64x1024 := Rect.unit (s := S15x64x1024) ![j.val, 0, 0] S1x64x1024.size (inb_slot j)
/-- The rows of the chunk `j + 1` devices after `c`. -/
abbrev rOut (c : Dev nD) (j : Fin 15) : Rect S1024x1024 :=
  Rect.unit (s := S1024x1024) (k0_off1 c (BitVec.ofNat 32 (1 + j.val))) S64x1024.size (k0_off1_inb c j)
/-- The rows of `c`'s own chunk. -/
abbrev rOwn (c : Dev nD) : Rect S1024x1024 := Rect.unit (s := S1024x1024) (k0_off2 c) S64x1024.size (k0_off2_inb c)
/-- The same rows, as the second round of copies names them. -/
abbrev rOwn' (c : Dev nD) : Rect S1024x1024 := Rect.unit (s := S1024x1024) (k0_off3 c) S64x1024.size (k0_off3_inb c)
/-- A whole square buffer. -/
abbrev rAll : Rect S1024x1024 := Rect.unit (s := S1024x1024) ![0, 0] S1024x1024.size inb_S1024x1024_S1024x1024_0_0
/-- A whole chunk buffer. -/
abbrev rChunk : Rect S64x1024 := Rect.unit (s := S64x1024) ![0, 0] S64x1024.size inb_S64x1024_S64x1024_0_0

/-- A slot's rows pack into whole words. -/
theorem packed_slot : ∀ j : Fin 15, (rSlot j).PackedRows (EltTy.packing .bf16) := by decide
/-- A slot is whole words. -/
theorem words_slot : ∀ j : Fin 15, (rSlot j).WholeWords (EltTy.packing .bf16) := by decide

/-- Slot `j` of a buffer of fifteen chunks, as a chunk. -/
abbrev slot (m : Memref sig .tc .vmem S15x64x1024 .bf16) (j : Fin 15) : Memref sig .tc .vmem S64x1024 .bf16 :=
  (m.slice (rSlot j) (fun _ => rfl)).squeeze S64x1024 squeezes_S1x64x1024_S64x1024
/-- Semaphore `j` of a family. -/
abbrev semAt (m : DmaSems sig S15) (j : Fin 15) : DmaSem sig :=
  ((m.slice (Rect.unit (s := S15) ![j.val] S1.size (inb_sem j))).squeeze S_ squeezes_S1_S_).sem

/-! ## The devices the body names -/

/-- The devices signalled, in order. -/
def sigDevs (c : Dev nD) : List (Dev nD) := [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The devices of the first round of copies, with the slot each uses. -/
def outDevs (c : Dev nD) : List (Dev nD) := [⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]
/-- The devices of the second round of copies. -/
def gatDevs (c : Dev nD) : List (Dev nD) := [⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩]

/-- A list with its positions among the fifteen slots. -/
def numbered (l : List (Dev nD)) : List (Fin 15 × Dev nD) := [0, 1, 2, 3, 4, 5, 6, 7, 8, 9, 10, 11, 12, 13, 14].zip l

/-! ## The phases -/

variable (A : Args) (c : Dev nD)

/-- The barrier semaphore. -/
abbrev barS : Sem sig := (SemArray.scalar (sig.barrier 0 rfl) : Sems sig S_).sem

/-- Signal every device of the list once. -/
def signals : List (Dev nD) → P F → P F
  | [], k => k
  | d :: l, k => .op (.semSignal (d, .tc) barS (1#32).toInt) fun _ => signals l k

/-- Load head `h`'s keys and values. -/
def loadKV (b : Fin 4) (h : Fin 8) (k : Vec F (SK1 b) .f32 → Vec F (SK1 b) .f32 → P F) : P F :=
  .op (.load A.a2 (rKV b h).toLoadRect (View.loadsAt_vmem (pos_KV b))) fun x =>
  .op (.load A.a3 (rKV b h).toLoadRect (View.loadsAt_vmem (pos_KV b))) fun y => k x y

/-- One row block: its eight heads' loads, and the store of its partial output. -/
def attn (b : Fin 4) (Q : FVec F S1024x1024 .f32) (wo : FVec F S1024x1024 .bf16) (k : P F) : P F :=
  loadKV A b 0 fun k0 v0 => loadKV A b 1 fun k1 v1 => loadKV A b 2 fun k2 v2 => loadKV A b 3 fun k3 v3 =>
  loadKV A b 4 fun k4 v4 => loadKV A b 5 fun k5 v5 => loadKV A b 6 fun k6 v6 => loadKV A b 7 fun k7 v7 =>
  .op (.load A.a5 (rRows b).toLoadRect (View.loadsAt_vmem h_S256x1024)) fun _ =>
  .op (.store A.a5 (rRows b) (blockOut b Q wo ![k0, k1, k2, k3, k4, k5, k6, k7] ![v0, v1, v2, v3, v4, v5, v6, v7]) Finset.univ
    (View.stores_vmem_bits_univ h_S256x1024 rfl) (.inl rfl)) fun _ => k

/-- The first round of copies: cast a chunk into its slot and send it. -/
def sendOut : List (Fin 15 × Dev nD) → P F → P F
  | [], k => k
  | (j, d) :: l, k =>
    .op (.load A.a5 (rOut c j).toLoadRect (View.loadsAt_vmem h_S64x1024)) fun p =>
    .op (.load A.a6 (rSlot j).toLoadRect (View.loadsAt_vmem h_S1x64x1024)) fun _ =>
    .op (.store A.a6 (rSlot j) (slotOf p) Finset.univ
      (View.stores_vmem h_S1x64x1024 (A.h6.storeExact_slice rfl _ (packed_slot j)) (fun _ => rfl)) (.inl rfl)) fun _ =>
    .op (.enqueueDma (slot A.a6 j) (.remote (Dev.tc d) (slot A.a7 j) (.dma (semAt A.a10 j))) (.dma (semAt A.a11 j))
      ((A.h6.wordExact_slice rfl _ (words_slot j)).reshape _ _) ((A.h7.wordExact_slice rfl _ (words_slot j)).reshape _ _)
      ⟨⟨rfl, Or.inl rfl⟩, trivial⟩) fun _ => sendOut l k

/-- The chunks received, added up in order. -/
def addIn : List (Fin 15) → FVec F S64x1024 .f32 → (FVec F S64x1024 .f32 → P F) → P F
  | [], a, k => k a
  | j :: l, a, k =>
    .op (.waitDma2 (semAt A.a11 j) (slot A.a6 j) (slot A.a7 j)
      ((A.h6.wordExact_slice rfl _ (words_slot j)).reshape _ _) ((A.h7.wordExact_slice rfl _ (words_slot j)).reshape _ _)) fun _ =>
    .op (.load A.a7 (rSlot j).toLoadRect (View.loadsAt_vmem h_S1x64x1024)) fun g =>
    addIn l (accStep a g) k

/-- The second round of copies: the reduced chunk to every peer. -/
def sendRed : List (Fin 15 × Dev nD) → P F → P F
  | [], k => k
  | (j, d) :: l, k =>
    .op (.enqueueDma A.a9 (.remote (Dev.tc d) (A.a8.slice (rOwn' c) (fun _ => rfl)) (.dma (semAt A.a12 j))) (.dma (semAt A.a13 j))
      A.h9.wordExact (A.h8.wordExact_slice rfl _ (k0_off3_wordsbf16 c)) ⟨⟨rfl, Or.inl rfl⟩, trivial⟩) fun _ => sendRed l k

/-- The waits for the peers' reduced chunks. -/
def recvRed : List (Fin 15) → P F → P F
  | [], k => k
  | j :: l, k =>
    .op (.waitDma2 (semAt A.a13 j) A.a9 (A.a8.slice (rOwn' c) (fun _ => rfl))
      A.h9.wordExact (A.h8.wordExact_slice rfl _ (k0_off3_wordsbf16 c))) fun _ => recvRed l k

/-- The waits that drain both rounds' sends. -/
def drain : List (Fin 15) → P F
  | [] => .ret ⟨⟩
  | j :: l =>
    .op (.waitDma2 (semAt A.a10 j) (slot A.a7 j) (slot A.a6 j)
      ((A.h7.wordExact_slice rfl _ (words_slot j)).reshape _ _) ((A.h6.wordExact_slice rfl _ (words_slot j)).reshape _ _)) fun _ =>
    .op (.waitDma2 (semAt A.a12 j) (A.a8.slice (rOwn' c) (fun _ => rfl)) A.a9
      (A.h8.wordExact_slice rfl _ (k0_off3_wordsbf16 c)) A.h9.wordExact) fun _ => drain l

/-- The fifteen slots in order. -/
abbrev slots : List (Fin 15) := [0, 1, 2, 3, 4, 5, 6, 7, 8, 9, 10, 11, 12, 13, 14]

/-- The last stores: everything gathered, then the device's own chunk at full width. -/
def finish (a : FVec F S64x1024 .f32) (k : P F) : P F :=
  .op (.load A.a8 rAll.toLoadRect (View.loadsAt_vmem h_S1024x1024)) fun g =>
  .op (.load A.a5 rAll.toLoadRect (View.loadsAt_vmem h_S1024x1024)) fun _ =>
  .op (.store A.a5 rAll (k0_pay95 g) Finset.univ (View.stores_vmem_bits_univ h_S1024x1024 rfl) (.inl rfl)) fun _ =>
  .op (.load A.a5 (rOwn c).toLoadRect (View.loadsAt_vmem h_S64x1024)) fun _ =>
  .op (.store A.a5 (rOwn c) a Finset.univ (View.stores_vmem_bits_univ h_S64x1024 rfl) (.inl rfl)) fun _ => k

/-- The stores between the rounds: the reduced chunk for the copies, and at full width in place. -/
def publish (a : FVec F S64x1024 .f32) (k : P F) : P F :=
  .op (.load A.a9 rChunk.toLoadRect (View.loadsAt_vmem h_S64x1024)) fun _ =>
  .op (.store A.a9 rChunk (redOf a) Finset.univ
    (View.stores_vmem h_S64x1024 (A.h9.storeExact_slice rfl _ packedbf16_S64x1024_S64x1024_0_0) (fun _ => rfl)) (.inl rfl)) fun _ =>
  .op (.load A.a5 (rOwn c).toLoadRect (View.loadsAt_vmem h_S64x1024)) fun _ =>
  .op (.store A.a5 (rOwn c) a Finset.univ (View.stores_vmem_bits_univ h_S64x1024 rfl) (.inl rfl)) fun _ => k

/-- The compute phase: the operands' loads and the four row blocks. -/
def compute (k : P F) : P F :=
  .op (.load A.a0 rAll.toLoadRect (View.loadsAt_vmem h_S1024x1024)) fun x =>
  .op (.load A.a1 rAll.toLoadRect (View.loadsAt_vmem h_S1024x1024)) fun wq =>
  .op (.load A.a4 rAll.toLoadRect (View.loadsAt_vmem h_S1024x1024)) fun wo =>
  attn A 0 (k0_pay1 x wq) (k0_pay2 wo) <| attn A 1 (k0_pay1 x wq) (k0_pay2 wo) <|
  attn A 2 (k0_pay1 x wq) (k0_pay2 wo) <| attn A 3 (k0_pay1 x wq) (k0_pay2 wo) k

/-- The exchange: both rounds of copies and everything between. -/
def exchange : P F :=
  sendOut A c (numbered (outDevs c)) <|
  .op (.load A.a5 (rOwn c).toLoadRect (View.loadsAt_vmem h_S64x1024)) fun p =>
  addIn A slots (acc0 p) fun a =>
  publish A c a <|
  sendRed A c (numbered (gatDevs c)) <|
  recvRed A c slots <|
  finish A c a <|
  drain A c slots

/-- The body from the device's number on. -/
def bodyOn : P F :=
  signals (sigDevs c) <|
  .op (.semWait barS (15#32).toInt) fun _ =>
  compute A <| exchange A c

/-- The body. -/
def body : P F := .op .deviceId fun c => bodyOn A c

end Cert.KernelIdeal.Own
-- ==== Proof.KernelIdeal.Outs.lean ====
module

public import proofs.«01_k».proof.Proof.KernelIdeal.Prog
public import proofs.«01_k».proof.Proof.Common.Stack

/-! # What every device computes, as functions of all the devices' operands

A device's partial output is four row blocks stacked; read again as sixteen chunks of rows, chunk
`d` belongs to device `d`. The device `c` sends chunk `nx c j` to device `nx c j` in slot `j`, adds
what arrives in its own slots to its own chunk, and sends the sum to everybody. -/

@[expose] public section

set_option synthInstance.maxSize 4096

noncomputable section

namespace Cert.KernelIdeal.Own

open Idealize.ShloMosaic Idealize.ShloMosaic.TcCoe Idealize.SL.Sem
open Cert.KernelIdeal Cert.KernelIdeal.Gen Cert.Own

variable {F : FTy → Type} [FloatOps F] [Named F]

/-! ## The ring of devices -/

/-- The device `j + 1` places after `c`. -/
def nx (c : Dev nD) (j : Fin 15) : Dev nD := ⟨(c.val + (j.val + 1)) % 16, Nat.mod_lt _ (by decide)⟩
/-- The device `j + 1` places before `c`. -/
def pv (c : Dev nD) (j : Fin 15) : Dev nD := ⟨(c.val + (15 - j.val)) % 16, Nat.mod_lt _ (by decide)⟩

/-- Going back and forth. -/
theorem nx_pv : ∀ (c : Dev nD) (j : Fin 15), nx (pv c j) j = c := by decide
/-- Going forth and back. -/
theorem pv_nx : ∀ (c : Dev nD) (j : Fin 15), pv (nx c j) j = c := by decide
/-- Going around. -/
theorem nx_nx_rev : ∀ (c : Dev nD) (j : Fin 15), nx (nx c j) j.rev = c := by decide
/-- The devices signalled are the others in ring order. -/
theorem sigDevs_eq : ∀ c : Dev nD, sigDevs c = slots.map (nx c) := by decide
/-- So are the devices of the first round of copies. -/
theorem outDevs_eq : ∀ c : Dev nD, numbered (outDevs c) = slots.map fun j => (j, nx c j) := by decide
/-- So are the devices of the second round. -/
theorem gatDevs_eq : ∀ c : Dev nD, numbered (gatDevs c) = slots.map fun j => (j, nx c j) := by decide
/-- A device and the others after it are all the devices. -/
theorem mem_after : ∀ c d : Dev nD, d ∈ c :: slots.map (nx c) := by decide
/-- Each once. -/
theorem nodup_after : ∀ c : Dev nD, (c :: slots.map (nx c)).Nodup := by decide
/-- A device and the others before it are all the devices. -/
theorem mem_before : ∀ c d : Dev nD, d ∈ c :: slots.map (pv c) := by decide
/-- Each once. -/
theorem nodup_before : ∀ c : Dev nD, (c :: slots.map (pv c)).Nodup := by decide
/-- The slots are all the slots. -/
theorem mem_slots : ∀ j : Fin 15, j ∈ slots := by decide
/-- Each once. -/
theorem nodup_slots : slots.Nodup := by decide

/-! ## The partial output -/

/-- One device's operands, as the kernel's call receives them. -/
structure Ins (F : FTy → Type) where
  x : Vec F S1024x1024 .f32
  wq : Vec F S1024x1024 .f32
  k : Vec F S8x1024x128 .f32
  v : Vec F S8x1024x128 .f32
  wo : Vec F S1024x1024 .f32

/-- The keys or values of head `h` that block `b` looks at. -/
def headOf (b : Fin 4) (X : Vec F S8x1024x128 .f32) (h : Fin 8) : Vec F (SK1 b) .f32 := fun j => X ((rKV b h).emb j)

/-- Row block `b` of the partial output. -/
def blkOf (i : Ins F) (b : Fin 4) : FVec F S256x1024 .f32 :=
  blockOut b (k0_pay1 i.x i.wq) (k0_pay2 i.wo)
    ![headOf b i.k 0, headOf b i.k 1, headOf b i.k 2, headOf b i.k 3, headOf b i.k 4, headOf b i.k 5, headOf b i.k 6, headOf b i.k 7]
    ![headOf b i.v 0, headOf b i.v 1, headOf b i.v 2, headOf b i.v 3, headOf b i.v 4, headOf b i.v 5, headOf b i.v 6, headOf b i.v 7]

/-- The partial output: the four row blocks stacked. -/
def partOf (i : Ins F) : Vec F S1024x1024 .f32 := stack (n := 4) (h := 256) (by decide) (by decide) (blkOf i)

/-- The four stores of the compute phase leave the partial output, whatever was there before. -/
theorem overlays_part (i : Ins F) (X : Vec F S1024x1024 .f32) :
    (rRows 3).overlay ((rRows 2).overlay ((rRows 1).overlay ((rRows 0).overlay X (blkOf i 0)) (blkOf i 1)) (blkOf i 2)) (blkOf i 3)
      = partOf i := by
  obtain ⟨p, rfl⟩ := exists_stack (n := 4) (h := 256) (by decide) (by decide) X
  have step : ∀ (b : Fin 4) (p : Fin 4 → (Rows 256).Idx → F .f32),
      (rRows b).overlay (stack (n := 4) (h := 256) (by decide) (by decide) p) (blkOf i b)
        = stack (n := 4) (h := 256) (by decide) (by decide) (Function.update p b (blkOf i b)) := fun b p =>
    overlay_stack (n := 4) (h := 256) (by decide) (by decide) (d := b) rfl (inb_rows b) p (blkOf i b)
  rw [step 0, step 1, step 2, step 3]
  refine congrArg (stack (n := 4) (h := 256) (by decide) (by decide)) (funext fun b => ?_)
  fin_cases b <;> simp

/-! ## The first round -/

variable (I : Dev nD → Ins F)

/-- The chunk of its partial output that device `c` owes to device `nx c j`. -/
def chunk (c : Dev nD) (j : Fin 15) : Vec F S64x1024 .f32 := fun i => partOf (I c) ((rOut c j).emb i)
/-- What the copy carries. -/
def sent (c : Dev nD) (j : Fin 15) : Vec F S64x1024 .bf16 := fun i =>
  slotOf (chunk I c j) (Shape.reshapeEquiv (squeezes_S1x64x1024_S64x1024).numel_eq i)
/-- What device `c` finds in slot `j`. -/
def got (c : Dev nD) (j : Fin 15) : Vec F S1x64x1024 .bf16 := fun i =>
  sent I (pv c j) j ((Shape.reshapeEquiv (squeezes_S1x64x1024_S64x1024).numel_eq).symm i)
/-- Its own chunk. -/
def own (c : Dev nD) : Vec F S64x1024 .f32 := fun i => partOf (I c) ((rOwn c).emb i)
/-- The accumulator after the slots of a list. -/
def accL (c : Dev nD) (l : List (Fin 15)) (a : FVec F S64x1024 .f32) : FVec F S64x1024 .f32 := l.foldl (fun a j => accStep a (got I c j)) a
/-- The reduced chunk. -/
def accOf (c : Dev nD) : FVec F S64x1024 .f32 := accL I c slots (acc0 (own I c))

/-! ## The second round -/

/-- What the second round's copies carry. -/
def red (c : Dev nD) : Vec F S64x1024 .bf16 := redOf (accOf I c)
/-- Everything gathered, with something in the device's own chunk. -/
def gathered (c : Dev nD) (Y : Vec F S64x1024 .bf16) : Vec F S1024x1024 .bf16 :=
  stack (n := 16) (h := 64) (by decide) (by decide) fun d => if d = c then Y else red I d
/-- The output: the device's own chunk at full width, every other chunk as it was sent. -/
def outOf (c : Dev nD) : Vec F S1024x1024 .f32 :=
  stack (n := 16) (h := 64) (by decide) (by decide) fun d =>
    if d = c then accOf I c else extf .f32 (red I d : FVec F S64x1024 .bf16) bitsLt_bf16_f32

/-- The stored chunk is the chunk. -/
theorem overlay_red (c : Dev nD) (X : Vec F S64x1024 .bf16) : rChunk.overlay X (redOf (accOf I c)) = red I c :=
  overlay_whole (by decide) _ _ _

/-- The gathered chunk of another device. -/
theorem gathered_emb (c : Dev nD) (Y : Vec F S64x1024 .bf16) (d : Dev nD) :
    (fun j => gathered I c Y ((rOwn' d).emb j)) = if d = c then Y else red I d :=
  stack_emb (n := 16) (h := 64) (by decide) (by decide) (d := d) (k0_off3_eq d) (k0_off3_inb d) _

/-- The last two stores leave the output. -/
theorem overlay_out (c : Dev nD) (X : Vec F S1024x1024 .f32) (Y : Vec F S64x1024 .bf16) :
    (rOwn c).overlay (rAll.overlay X (k0_pay95 (fun i => gathered I c Y (rAll.emb i)))) (accOf I c) = outOf I c := by
  have h1 : rAll.overlay X (k0_pay95 (fun i => gathered I c Y (rAll.emb i)))
      = stack (n := 16) (h := 64) (by decide) (by decide) fun d =>
          extf .f32 ((if d = c then Y else red I d : Vec F S64x1024 .bf16) : FVec F S64x1024 .bf16) bitsLt_bf16_f32 := by
    rw [overlay_whole (by decide)]
    have h2 : (fun i => gathered I c Y (rAll.emb i)) = gathered I c Y :=
      funext fun i => congrArg (gathered I c Y) (unit_whole_emb (by decide) _ i)
    exact (congrArg k0_pay95 h2).trans rfl
  rw [h1]
  refine (overlay_stack (n := 16) (h := 64) (by decide) (by decide) (d := c) (k0_off2_eq c) (k0_off2_inb c) _ _).trans ?_
  refine congrArg (stack (n := 16) (h := 64) (by decide) (by decide)) (funext fun d => ?_)
  by_cases hd : d = c
  · subst hd; simp
  · rw [Function.update_of_ne hd, if_neg hd, if_neg hd]

end Cert.KernelIdeal.Own

end
-- ==== Proof.KernelIdeal.Proto.lean ====
module

public import proofs.«01_k».proof.Proof.KernelIdeal.Outs
public import proofs.«01_k».proof.Proof.Common.Mem
public import Idealize.ShloMosaic.Lib.Pipeline.Kit
public import Idealize.ShloMosaic.Lib.Pipeline.BigSepL

/-! # The protocol

Every cell is used for one round.

* A device's barrier cell expects one unit from each of the fifteen others. The unit of the device
  `j + 1` places after it is duty `j`, and hands over what this device will write there: slot `j` of
  that device's receive buffer, this device's rows of its gather buffer, and that its two receive
  cells `j` are open.
* A receive cell `j` of the first round expects one copy, from `j + 1` places before, and hands over
  slot `j` at what was sent. A receive cell of the second round hands over the sender's rows of the
  gather buffer at the sender's reduced chunk.
* A send cell of the first round hands the sending slot back, one of the second round a share of
  the reduced chunk. -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

/-- The resource algebra: the pipeline's cells and the kernel's own cells, whose duties are the
    fifteen positions. -/
abbrev UU : Type := UR sig nD τ × Rounds.URounds (GSem nD τ sig) (Fin 15)

local notation "𝕄" => MT nD τ sig Unit (Elt F) ℕ UU ℕ

/-- The pipeline's part. -/
abbrev EP : Emb (UR sig nD τ) (MT nD τ sig Unit (Elt F) ℕ UU ℕ) := embL
/-- The kernel's part. -/
abbrev ER : Emb (Rounds.URounds (GSem nD τ sig) (Fin 15)) (MT nD τ sig Unit (Elt F) ℕ UU ℕ) := embR

/-! ## Cells -/

/-- Semaphore `j` of family `f`: sends and receives of the first round, then of the second. -/
def ds (f : Fin 4) (j : Fin 15) : DmaSem sig :=
  ⟨6 + 15 * f.val + j.val, by have := f.isLt; have := j.isLt; show _ < 66; omega⟩
/-- The family of a semaphore. -/
def fam (s : DmaSem sig) : ℕ := (s.val - 6) / 15
/-- Its position in the family. -/
def num (s : DmaSem sig) : Fin 15 := ⟨(s.val - 6) % 15, Nat.mod_lt _ (by decide)⟩
/-- Reading the family back. -/
theorem fam_ds : ∀ f j, fam (ds f j) = f.val := by decide
/-- Reading the position back. -/
theorem num_ds : ∀ f j, num (ds f j) = j := by decide
/-- None of them belongs to the pipeline's staging. -/
theorem le_ds (f : Fin 4) (j : Fin 15) : 6 ≤ (ds f j).val := by show 6 ≤ 6 + 15 * f.val + j.val; omega

/-- The barrier cell. -/
abbrev barCell (c : Dev nD) : GSem nD τ sig := ((c : Thread nD τ), .reg barS)
/-- A copy cell. -/
abbrev dCell (f : Fin 4) (c : Dev nD) (j : Fin 15) : GSem nD τ sig := ((c : Thread nD τ), .dma (ds f j))

/-- The body's semaphores are these. -/
structure Args.Std (A : Args) : Prop where
  s0 : ∀ j, semAt A.a10 j = ds 0 j
  s1 : ∀ j, semAt A.a11 j = ds 1 j
  s2 : ∀ j, semAt A.a12 j = ds 2 j
  s3 : ∀ j, semAt A.a13 j = ds 3 j

/-- The units one chunk's copy counts. -/
abbrev N : ℕ := (Memref.whole cc0_scratch3 : Memref sig .tc .vmem S64x1024 .bf16).view.dmaCredit
/-- They are some. -/
theorem N_pos : 0 < N := View.dmaCredit_pos _ (by decide)
/-- Every chunk counts the same, wherever it lies. -/
theorem credit_eq (m : Memref sig .tc .vmem S64x1024 .bf16) : m.view.dmaCredit = N := rfl

/-! ## The schedule -/

variable (A : Args) (I : Dev nD → Ins F)

/-- The share of the reduced chunk left after `n` copies took half of the rest. -/
def shareAt : ℕ → PosShare TreeShare
  | 0 => fullShare
  | n + 1 => (shareAt n).right

/-- What duty `j` of device `c`'s barrier hands over. -/
def barPay (c : Dev nD) (j : Fin 15) : sProp 𝕄 :=
  iprop((∃ Y : S64x1024.Idx → Elt F .bf16, owns (nx c j : Thread nD τ) (slot A.a7 j) fullShare Y)
    ∗ (∃ Y : S64x1024.Idx → Elt F .bf16, owns (nx c j : Thread nD τ) (A.a8.slice (rOwn' c) (fun _ => rfl)) fullShare Y)
    ∗ reached ER (dCell 1 (nx c j) j) 0 ∗ reached ER (dCell 3 (nx c j) j) 0)
/-- The first round's send: the sending slot back. -/
def pay0 (c : Dev nD) (j : Fin 15) : sProp 𝕄 :=
  iprop(∃ Y : S64x1024.Idx → Elt F .bf16, owns (c : Thread nD τ) (slot A.a6 j) fullShare Y)
/-- The first round's receive: slot `j` at what was sent. -/
def pay1 (c : Dev nD) (j : Fin 15) : sProp 𝕄 := owns (c : Thread nD τ) (slot A.a7 j) fullShare (sent I (pv c j) j)
/-- The second round's send: a share of the reduced chunk. -/
def pay2 (c : Dev nD) (j : Fin 15) : sProp 𝕄 := owns (c : Thread nD τ) A.a9 (shareAt j.val).left (red I c)
/-- The second round's receive: the sender's rows at the sender's reduced chunk. -/
def pay3 (c : Dev nD) (j : Fin 15) : sProp 𝕄 :=
  owns (c : Thread nD τ) (A.a8.slice (rOwn' (pv c j)) (fun _ => rfl)) fullShare (red I (pv c j))

/-- A copy cell's payload by its family. -/
def dmaPay (c : Dev nD) (f : ℕ) (j : Fin 15) : sProp 𝕄 :=
  if f = 0 then pay0 A c j else if f = 1 then pay1 A I c j else if f = 2 then pay2 A I c j else pay3 A I c j

/-- The schedule: one round on every cell, fifteen duties on a barrier, one on a copy cell. -/
def Rd : Rounds.Schedule (GSem nD τ sig) (Fin 15) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => N
  payload g _ d := match g.2 with | .reg _ => barPay A g.1.1 d | .dma s => dmaPay A I g.1.1 (fam s) (num s)
  amount_pos g _ _ _ := by
    match g.2 with
    | .reg _ => exact Nat.one_pos
    | .dma _ => exact N_pos

instance dmaPay_storable (c : Dev nD) (f : ℕ) (j : Fin 15) : BI.Storable (upEmb : UEmb _ 𝕄) (dmaPay A I c f j) := by
  unfold dmaPay pay0 pay1 pay2 pay3
  (repeat' split) <;> infer_instance

instance Rd_storable (g : GSem nD τ sig) (r : ℕ) (d : Fin 15) : BI.Storable (upEmb : UEmb _ 𝕄) ((Rd A I).payload g r d) := by
  show BI.Storable upEmb (match g.2 with | .reg _ => barPay A g.1.1 d | .dma s => dmaPay A I g.1.1 (fam s) (num s))
  match g.2 with
  | .reg _ => show BI.Storable upEmb (barPay A g.1.1 d); unfold barPay; infer_instance
  | .dma s => show BI.Storable upEmb (dmaPay A I g.1.1 (fam s) (num s)); infer_instance

section Facts

variable (c : Dev nD) (f : Fin 4) (j : Fin 15)

theorem duties_bar : (Rd A I).duties (barCell c) 0 = Finset.univ := by dsimp only [Rd]; exact if_pos ⟨rfl, rfl⟩
theorem duties_dma : (Rd A I).duties (dCell f c j) 0 = {0} := by
  dsimp only [Rd]; rw [if_pos ⟨rfl, rfl⟩]; exact if_pos (le_ds f j)
theorem mem_dma : (0 : Fin 15) ∈ (Rd A I).duties (dCell f c j) 0 := by rw [duties_dma]; exact Finset.mem_singleton_self _
theorem duties_later (g : GSem nD τ sig) : ∀ r, 1 ≤ r → (Rd A I).duties g r = ∅ := fun r hr => by
  dsimp only [Rd]; exact if_neg fun h => by omega
theorem amount_bar (d : Fin 15) : (Rd A I).amount (barCell c) 0 d = 1 := rfl
theorem amount_dma (d : Fin 15) : (Rd A I).amount (dCell f c j) 0 d = N := rfl
theorem expect_bar : (Rd A I).expect (barCell c) 0 = 15 := by
  unfold Schedule.expect Schedule.amountOf
  rw [duties_bar, Finset.sum_congr rfl fun d _ => amount_bar A I c d, Finset.sum_const, Finset.card_univ, Fintype.card_fin, smul_eq_mul]
theorem expect_dma : (Rd A I).expect (dCell f c j) 0 = N := by
  unfold Schedule.expect Schedule.amountOf; rw [duties_dma, Finset.sum_singleton, amount_dma]
theorem payload_bar (d : Fin 15) : (Rd A I).payload (barCell c) 0 d = barPay A c d := rfl
theorem payload_dma (d : Fin 15) : (Rd A I).payload (dCell f c j) 0 d = dmaPay A I c f.val j := by
  show dmaPay A I c (fam (ds f j)) (num (ds f j)) = _
  rw [fam_ds, num_ds]
theorem payload0 (d : Fin 15) : (Rd A I).payload (dCell 0 c j) 0 d = pay0 A c j := (payload_dma A I c 0 j d).trans (if_pos rfl)
theorem payload1 (d : Fin 15) : (Rd A I).payload (dCell 1 c j) 0 d = pay1 A I c j := payload_dma A I c 1 j d
theorem payload2 (d : Fin 15) : (Rd A I).payload (dCell 2 c j) 0 d = pay2 A I c j := payload_dma A I c 2 j d
theorem payload3 (d : Fin 15) : (Rd A I).payload (dCell 3 c j) 0 d = pay3 A I c j := payload_dma A I c 3 j d
/-- A wait for a barrier's fifteen units gets every duty's payload. -/
theorem rest_bar : bigSep ((Rd A I).duties (barCell c) 0 \ ∅) (fun d => (Rd A I).payload (barCell c) 0 d) = bigSepL slots (fun j => barPay A c j) := by
  rw [Finset.sdiff_empty, duties_bar]
  exact (bigSep_univ_eq_bigSepL slots (by decide) nodup_slots _)
/-- A wait for a copy gets its payload. -/
theorem rest_dma : bigSep ((Rd A I).duties (dCell f c j) 0 \ ∅) (fun d => (Rd A I).payload (dCell f c j) 0 d) = dmaPay A I c f.val j := by
  rw [Finset.sdiff_empty, duties_dma, bigSep_singleton, payload_dma]

end Facts

/-! ## What is owed, and the levels -/

/-- The tally of `n` units to each cell of a list. -/
def owedL (g : Fin 15 → GSem nD τ sig) (n : ℕ) (l : List (Fin 15)) : CellTallies nD τ sig Unit :=
  l.foldr (fun j O => O + tallyAt (g j) () n) 0
theorem owedL_nil (g : Fin 15 → GSem nD τ sig) (n : ℕ) : owedL g n [] = 0 := rfl
theorem owedL_cons (g : Fin 15 → GSem nD τ sig) (n : ℕ) (j : Fin 15) (l : List (Fin 15)) (O : CellTallies nD τ sig Unit) :
    O + owedL g n (j :: l) = (O + owedL g n l) + tallyAt (g j) () n := (add_assoc _ _ _).symm
/-- A cell owed something is one of the list. -/
theorem owedL_pos (g : Fin 15 → GSem nD τ sig) (n : ℕ) : ∀ (l : List (Fin 15)) (x : GSem nD τ sig) (u : Unit),
    0 < owedL g n l x u → ∃ j, x = g j
  | [], x, u, h => absurd h (by show ¬ 0 < 0; exact Nat.lt_irrefl 0)
  | j :: l, x, u, h => by
    by_cases hx : x = g j
    · exact ⟨j, hx⟩
    · refine owedL_pos g n l x u ?_
      have h1 : owedL g n (j :: l) x u = owedL g n l x u + tallyAt (g j) () n x u := rfl
      rw [h1, tallyAt_apply, if_neg (fun h => hx h.1), Nat.add_zero] at h
      exact h

/-- The second round's credits, that device `c` pays. -/
def owed3 (c : Dev nD) (l : List (Fin 15)) : CellTallies nD τ sig Unit := owedL (fun j => dCell 3 (nx c j) j) N l
/-- The first round's on top. -/
def owed1 (c : Dev nD) (l : List (Fin 15)) : CellTallies nD τ sig Unit := owed3 c slots + owedL (fun j => dCell 1 (nx c j) j) N l
/-- The barrier units on top. -/
def owedB (c : Dev nD) (l : List (Fin 15)) : CellTallies nD τ sig Unit := owed1 c slots + owedL (fun j => barCell (nx c j)) 1 l
/-- What a device owes at launch. -/
abbrev O₀ (c : Dev nD) : CellTallies nD τ sig Unit := owedB c slots

theorem owedB_nil (c : Dev nD) : owedB c [] = owed1 c slots := add_zero _
theorem owed1_nil (c : Dev nD) : owed1 c [] = owed3 c slots := add_zero _

/-- Every TensorCore cell has one index. -/
def L (g : GSem nD τ sig) : Finset Unit := if g.1.2 = .tc then {()} else ∅
/-- Barriers first, then the first round's arrivals, then the second round's. -/
def lv (g : GSem nD τ sig) (_ : Unit) : ℕ :=
  match g.2 with | .reg _ => 1 | .dma s => if fam s = 1 then 2 else if fam s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv1 (c : Dev nD) (j : Fin 15) (u : Unit) : lv (dCell 1 c j) u = 2 := by
  show (if fam (ds 1 j) = 1 then 2 else _) = 2; rw [fam_ds]; rfl
theorem lv3 (c : Dev nD) (j : Fin 15) (u : Unit) : lv (dCell 3 c j) u = 3 := by
  show (if fam (ds 3 j) = 1 then 2 else if fam (ds 3 j) = 3 then 3 else 0) = 3; rw [fam_ds]; rfl

/-- What is owed to the first and second rounds is owed to arrivals there. -/
theorem owed1_pos (c : Dev nD) (l : List (Fin 15)) (g : GSem nD τ sig) (u : Unit) (h : 0 < owed1 c l g u) :
    (∃ j, g = dCell 3 (nx c j) j) ∨ ∃ j, g = dCell 1 (nx c j) j := by
  have h1 : owed1 c l g u = owed3 c slots g u + owedL (fun j => dCell 1 (nx c j) j) N l g u := rfl
  rw [h1] at h
  rcases Nat.eq_zero_or_pos (owed3 c slots g u) with h0 | h0
  · rw [h0, Nat.zero_add] at h
    exact .inr (owedL_pos _ _ _ _ _ h)
  · exact .inl (owedL_pos _ _ _ _ _ h0)

/-- The barrier wait comes before everything still owed. -/
theorem mayWait_bar (c : Dev nD) : (levAts L lv : sProp 𝕄) ⊢ MayWait (c : Thread nD τ) (.reg barS) () (owed1 c slots) :=
  MayOwe.of_cut (L := L) (lev := lv) 1
    (fun p hp => by rw [Finset.mem_singleton.mp hp, L_tc]; exact Finset.mem_singleton_self _)
    (fun g u hg => by
      rcases owed1_pos c slots g u hg with ⟨j, rfl⟩ | ⟨j, rfl⟩ <;> (rw [L_tc]; exact Finset.mem_singleton_self _))
    (fun p hp => by rw [Finset.mem_singleton.mp hp]; exact le_refl _)
    (fun g u hg => by
      rcases owed1_pos c slots g u hg with ⟨j, rfl⟩ | ⟨j, rfl⟩
      · rw [lv3]; decide
      · rw [lv1]; decide)

/-- The first round's arrivals come before what is owed to the second round's. -/
theorem mayWait1 (c : Dev nD) (j : Fin 15) :
    (levAts L lv : sProp 𝕄) ⊢ MayWait (c : Thread nD τ) (.dma (ds 1 j)) () (owed3 c slots) :=
  MayOwe.of_cut (L := L) (lev := lv) 2
    (fun p hp => by rw [Finset.mem_singleton.mp hp, L_tc]; exact Finset.mem_singleton_self _)
    (fun g u hg => by
      obtain ⟨i, rfl⟩ := owedL_pos _ _ _ _ _ hg
      rw [L_tc]; exact Finset.mem_singleton_self _)
    (fun p hp => by rw [Finset.mem_singleton.mp hp]; exact (lv1 c j ()).le)
    (fun g u hg => by
      obtain ⟨i, rfl⟩ := owedL_pos _ _ _ _ _ hg
      rw [lv3]; decide)

end Cert.KernelIdeal.Own

end
-- ==== Proof.KernelIdeal.Phases.lean ====
module

public import proofs.«01_k».proof.Proof.KernelIdeal.Proto

/-! # The phases of the body, one after another

Each phase is a loop over the fifteen positions; its statement says what the positions still to do
need and what the positions done leave. -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (A : Args) (I : Dev nD → Ins F)

/-! ## The invariants -/

/-- Every cell's invariant, at the names `K` the launch gave, and that the barriers' rounds are open. -/
def recs (K : GSem nD τ sig → ℕ) : sProp 𝕄 :=
  iprop((bigSep (Finset.univ : Finset (Dev nD)) fun c => iprop(cellInv ER (Rd A I) (K (barCell c)) (barCell c) ∗ reached ER (barCell c) 0))
    ∗ bigSep (Finset.univ : Finset (Fin 4 × Dev nD × Fin 15)) fun x =>
      cellInv ER (Rd A I) (K (dCell x.1 x.2.1 x.2.2)) (dCell x.1 x.2.1 x.2.2))

instance recs_persistent (K : GSem nD τ sig → ℕ) : BI.Persistent (recs A I K) := by unfold recs; infer_instance

theorem recs_bar (K : GSem nD τ sig → ℕ) (c : Dev nD) :
    recs A I K ⊢ iprop(cellInv ER (Rd A I) (K (barCell c)) (barCell c) ∗ reached ER (barCell c) 0) := by
  unfold recs
  iintro ⟨H, -⟩
  iapply (show (bigSep (Finset.univ : Finset (Dev nD)) fun c => iprop(cellInv ER (Rd A I) (K (barCell c)) (barCell c) ∗ reached ER (barCell c) 0))
    ⊢ iprop(cellInv ER (Rd A I) (K (barCell c)) (barCell c) ∗ reached ER (barCell c) 0) from bigSep_elim (Finset.mem_univ c)) $$ H

theorem recs_dma (K : GSem nD τ sig → ℕ) (f : Fin 4) (c : Dev nD) (j : Fin 15) :
    recs A I K ⊢ cellInv ER (Rd A I) (K (dCell f c j)) (dCell f c j) := by
  unfold recs
  iintro ⟨-, H⟩
  iapply (show (bigSep (Finset.univ : Finset (Fin 4 × Dev nD × Fin 15)) fun x =>
      cellInv ER (Rd A I) (K (dCell x.1 x.2.1 x.2.2)) (dCell x.1 x.2.1 x.2.2))
    ⊢ cellInv ER (Rd A I) (K (dCell f c j)) (dCell f c j) from
      bigSep_elim (Φ := fun x : Fin 4 × Dev nD × Fin 15 => cellInv ER (Rd A I) (K (dCell x.1 x.2.1 x.2.2)) (dCell x.1 x.2.1 x.2.2))
        (Finset.mem_univ (f, c, j))) $$ H

variable (K : GSem nD τ sig → ℕ) (c : Dev nD)

/-- No variants: no loop of the program is left to bound. -/
abbrev 𝒱₀ : Variants := Variants.none

variable {Q : PUnit → sProp (MT nD τ sig Unit (Elt F) ℕ UU ℕ)}

/-! ## The barrier -/

theorem signals_nil (k : P F) : signals [] k = k := rfl
theorem signals_cons (d : Dev nD) (l : List (Dev nD)) (k : P F) :
    signals (d :: l) k = .op (.semSignal (d : Thread nD τ) barS ((1 : ℕ) : ℤ)) fun _ => signals l k := rfl

/-- The signals: each pays its duty of a peer's barrier. -/
theorem signals_run (W : Waits sig Unit) (k : P F) : ∀ l : List (Fin 15),
    iprop(recs A I K ∗ owes (c : Thread nD τ) (owedB c l) W
        ∗ bigSepL l fun j => iprop(dutyTok ER (barCell (nx c j)) 0 j.rev ∗ barPay A (nx c j) j.rev))
      ⊢ iprop((owes (c : Thread nD τ) (owed1 c slots) W -∗ wp frame (wpE (defs₀ (F := F)) 𝒱₀ (c : Thread nD τ) none) Set.univ k Q)
          -∗ wp frame (wpE (defs₀ (F := F)) 𝒱₀ (c : Thread nD τ) none) Set.univ (signals (l.map (nx c)) k) Q)
  | [] => by
    rw [owedB_nil, List.map_nil, signals_nil]
    iintro ⟨-, HO, -⟩ Hk
    iapply Hk
    iexact HO
  | j :: l => by
    rw [bigSepL_cons', List.map_cons, signals_cons]
    iintro ⟨#HR, HO, ⟨⟨HT, HP⟩, Hl⟩⟩ Hk
    ihave #HB := (recs_bar A I K (nx c j)) $$ HR
    icases HB with ⟨#HI, #Hr⟩
    iapply (Rounds.wp_signal 𝒱₀ ER (Rd A I) (c : Thread nD τ) none (dst := (nx c j : Thread nD τ)) (sem := barS) (r := 0) (d := j.rev)
      (κ := K (barCell (nx c j))) (by rw [duties_bar]; exact Finset.mem_univ _) (amount_bar A I (nx c j) j.rev) () (owedB c l)
      (owedL_cons _ _ j l (owed1 c slots))) $$ [HO HT HP]
    · isplitr; · iexact HI
      isplitl [HO]; · iexact HO
      isplitl [HT]; · iexact HT
      isplitl [HP]; · rw [payload_bar]; iexact HP
      iexact Hr
    iintro HO
    iapply (signals_run W k l) $$ [HO Hl]
    · isplitr; · iexact HR
      isplitl [HO]; · iexact HO
      iexact Hl
    iexact Hk

/-- The barrier wait: every peer's duty has been paid. -/
theorem barrier_run (W : Waits sig Unit) (k : PUnit → P F) :
    iprop(recs A I K ∗ levAts L lv ∗ cred (tallyAt (barCell c) () 15) ∗ owes (c : Thread nD τ) (owed1 c slots) W ∗ atPos ER (barCell c) 0 ∅ 0)
      ⊢ iprop(((∃ W, owes (c : Thread nD τ) (owed1 c slots) W) ∗ atPos ER (barCell c) (0 + 1) ∅ 0 ∗ bigSepL slots (fun j => barPay A c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toInt) k) Q) := by
  rw [show (15#32).toInt = ((15 : ℕ) : ℤ) from rfl]
  iintro ⟨#HR, #HL, HC, HO, HA⟩ Hk
  ihave #HB := (recs_bar A I K c) $$ HR
  icases HB with ⟨#HI, -⟩
  iapply (Rounds.wp_wait_rest_token 𝒱₀ ER (Rd A I) (c : Thread nD τ) none (κ := K (barCell c))
    (wpE_semWait_eq 𝒱₀ (c : Thread nD τ) none Set.univ) (Set.mem_univ _) () (O := owed1 c slots) (W := W) (R := 0) (m := 0) (T := ∅)
    ((Nat.zero_add 15).trans (expect_bar A I c).symm)) $$ [HC HO HA]
  · isplitr; · iexact HI
    isplitl [HC]; · iexact HC
    isplitl [HO]; · iexact HO
    isplitr; · iapply (mayWait_bar c); iexact HL
    iexact HA
  iintro ⟨HO, HA, -, HP⟩
  ihave HP' := (Entails.of_eq (rest_bar A I c)) $$ HP
  iapply Hk
  isplitl [HO]; · iexists _; iexact HO
  isplitl [HA]; · iexact HA
  iexact HP'

/-- A wait for one copy on one of the device's own cells. -/
theorem wait_run (f : Fin 4) (j : Fin 15) (O : CellTallies nD τ sig Unit) (hO : (levAts L lv : sProp 𝕄) ⊢ MayWait (c : Thread nD τ) (.dma (ds f j)) () O)
    {sp' : Space} {s' : Shape} {e' : EltTy} {src : Memref sig .tc sp' s' e'} {dst : Memref sig .tc .vmem S64x1024 .bf16}
    {hsrc : src.view.WordExact} {hdst : dst.view.WordExact} (k : PUnit → P F) :
    iprop(recs A I K ∗ levAts L lv ∗ cred (tallyAt (dCell f c j) () N) ∗ (∃ W, owes (c : Thread nD τ) O W) ∗ atPos ER (dCell f c j) 0 ∅ 0)
      ⊢ iprop(((∃ W, owes (c : Thread nD τ) O W) ∗ atPos ER (dCell f c j) (0 + 1) ∅ 0 ∗ dmaPay A I c f.val j
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds f j) src dst hsrc hdst) k) Q) := by
  iintro ⟨#HR, #HL, HC, ⟨%W, HO⟩, HA⟩ Hk
  ihave #HI := (recs_dma A I K f c j) $$ HR
  iapply (Rounds.wp_wait_rest_token 𝒱₀ ER (Rd A I) (c : Thread nD τ) none (κ := K (dCell f c j))
    (wpE_waitDma2_eq (src := src) (dst := dst) 𝒱₀ (c : Thread nD τ) none Set.univ) (Set.mem_univ _) () (O := O) (W := W) (R := 0) (m := 0) (T := ∅)
    ((Nat.zero_add _).trans ((credit_eq dst).trans (expect_dma A I c f j).symm))) $$ [HC HO HA]
  · isplitr; · iexact HI
    isplitl [HC]; · iexact HC
    isplitl [HO]; · iexact HO
    isplitr; · iapply hO; iexact HL
    iexact HA
  iintro ⟨HO, HA, -, HP⟩
  ihave HP' := (Entails.of_eq (rest_dma A I c f j)) $$ HP
  iapply Hk
  isplitl [HO]; · iexists _; iexact HO
  isplitl [HA]; · iexact HA
  iexact HP'

/-! ## The compute phase -/

/-- A load of a whole buffer gives its contents. -/
theorem load_all {m : Memref sig .tc .vmem S1024x1024 .f32} {hl : m.view.LoadsAt rAll.toLoadRect}
    (k : Vec F S1024x1024 .f32 → P F) (X : Vec F S1024x1024 .f32) :
    (owns (c : Thread nD τ) m fullShare X : sProp 𝕄)
      ⊢ iprop((owns (c : Thread nD τ) m fullShare X -∗ wp frame (wpE (defs₀ (F := F)) 𝒱₀ (c : Thread nD τ) none) Set.univ (k X) Q)
        -∗ wp frame (wpE (defs₀ (F := F)) 𝒱₀ (c : Thread nD τ) none) Set.univ (.op (.load m rAll.toLoadRect hl) k) Q) := by
  have h := owns_load (Ix := Unit) (Name := ℕ) (U := UU) (Lvl := ℕ) (defs := defs₀ (F := F)) 𝒱₀ (c : Thread nD τ) none Set.univ (m := m) (r := rAll) (hl := hl) (k := k) (q := fullShare) (X := X) (Q := Q)
  rwa [show (fun i => X (rAll.emb i)) = X from funext fun i => congrArg X (unit_whole_emb (by decide) _ i)] at h

/-- The loads of one head. -/
theorem loadKV_run (b : Fin 4) (h : Fin 8) (X Y : Vec F S8x1024x128 .f32) (k : Vec F (SK1 b) .f32 → Vec F (SK1 b) .f32 → P F) :
    iprop(owns (c : Thread nD τ) A.a2 fullShare X ∗ owns (c : Thread nD τ) A.a3 fullShare Y)
      ⊢ (iprop((owns (c : Thread nD τ) A.a2 fullShare X ∗ owns (c : Thread nD τ) A.a3 fullShare Y
            -∗ wp frame (wpE (defs₀ (F := F)) 𝒱₀ (c : Thread nD τ) none) Set.univ (k (headOf b X h) (headOf b Y h)) Q)
        -∗ wp frame (wpE (defs₀ (F := F)) 𝒱₀ (c : Thread nD τ) none) Set.univ (loadKV A b h k) Q) : sProp 𝕄) := by
  unfold loadKV
  iintro ⟨H2, H3⟩ Hk
  iapply (owns_load 𝒱₀ (c : Thread nD τ) none Set.univ) $$ H2
  iintro H2
  iapply (owns_load 𝒱₀ (c : Thread nD τ) none Set.univ) $$ H3
  iintro H3
  iapply Hk
  isplitl [H2]; · iexact H2
  iexact H3

/-- One row block: the output's rows of the block are replaced. -/
theorem attn_run (b : Fin 4) (q : FVec F S1024x1024 .f32) (wo : FVec F S1024x1024 .bf16) (X Y : Vec F S8x1024x128 .f32)
    (Z : Vec F S1024x1024 .f32) (k : P F) :
    iprop(owns (c : Thread nD τ) A.a2 fullShare X ∗ owns (c : Thread nD τ) A.a3 fullShare Y ∗ owns (c : Thread nD τ) A.a5 fullShare Z)
      ⊢ (iprop((owns (c : Thread nD τ) A.a2 fullShare X ∗ owns (c : Thread nD τ) A.a3 fullShare Y
              ∗ owns (c : Thread nD τ) A.a5 fullShare ((rRows b).overlay Z (blockOut b q wo
                ![headOf b X 0, headOf b X 1, headOf b X 2, headOf b X 3, headOf b X 4, headOf b X 5, headOf b X 6, headOf b X 7]
                ![headOf b Y 0, headOf b Y 1, headOf b Y 2, headOf b Y 3, headOf b Y 4, headOf b Y 5, headOf b Y 6, headOf b Y 7]))
            -∗ wp frame (wpE (defs₀ (F := F)) 𝒱₀ (c : Thread nD τ) none) Set.univ k Q)
        -∗ wp frame (wpE (defs₀ (F := F)) 𝒱₀ (c : Thread nD τ) none) Set.univ (attn A b q wo k) Q) : sProp 𝕄) := by
  unfold attn
  iintro ⟨H2, H3, H5⟩ Hk
  iapply (loadKV_run A c b 0 X Y) $$ [H2 H3]
  · isplitl [H2] <;> iassumption
  iintro ⟨H2, H3⟩
  iapply (loadKV_run A c b 1 X Y) $$ [H2 H3]
  · isplitl [H2] <;> iassumption
  iintro ⟨H2, H3⟩
  iapply (loadKV_run A c b 2 X Y) $$ [H2 H3]
  · isplitl [H2] <;> iassumption
  iintro ⟨H2, H3⟩
  iapply (loadKV_run A c b 3 X Y) $$ [H2 H3]
  · isplitl [H2] <;> iassumption
  iintro ⟨H2, H3⟩
  iapply (loadKV_run A c b 4 X Y) $$ [H2 H3]
  · isplitl [H2] <;> iassumption
  iintro ⟨H2, H3⟩
  iapply (loadKV_run A c b 5 X Y) $$ [H2 H3]
  · isplitl [H2] <;> iassumption
  iintro ⟨H2, H3⟩
  iapply (loadKV_run A c b 6 X Y) $$ [H2 H3]
  · isplitl [H2] <;> iassumption
  iintro ⟨H2, H3⟩
  iapply (loadKV_run A c b 7 X Y) $$ [H2 H3]
  · isplitl [H2] <;> iassumption
  iintro ⟨H2, H3⟩
  iapply (owns_load 𝒱₀ (c : Thread nD τ) none Set.univ) $$ H5
  iintro H5
  iapply (owns_store 𝒱₀ (c : Thread nD τ) none Set.univ) $$ H5
  iintro H5
  iapply Hk
  isplitl [H2]; · iexact H2
  isplitl [H3]; · iexact H3
  iexact H5

/-- The operands, staged. -/
def ops (i : Ins F) : sProp 𝕄 :=
  iprop(owns (c : Thread nD τ) A.a0 fullShare i.x ∗ owns (c : Thread nD τ) A.a1 fullShare i.wq ∗ owns (c : Thread nD τ) A.a2 fullShare i.k
    ∗ owns (c : Thread nD τ) A.a3 fullShare i.v ∗ owns (c : Thread nD τ) A.a4 fullShare i.wo)

/-- The compute phase leaves the partial output. -/
theorem compute_run (i : Ins F) (Z : Vec F S1024x1024 .f32) (k : P F) :
    iprop(ops A c i ∗ owns (c : Thread nD τ) A.a5 fullShare Z)
      ⊢ (iprop((ops A c i ∗ owns (c : Thread nD τ) A.a5 fullShare (partOf i)
            -∗ wp frame (wpE (defs₀ (F := F)) 𝒱₀ (c : Thread nD τ) none) Set.univ k Q)
        -∗ wp frame (wpE (defs₀ (F := F)) 𝒱₀ (c : Thread nD τ) none) Set.univ (compute A k) Q) : sProp 𝕄) := by
  unfold compute ops
  iintro ⟨⟨H0, H1, H2, H3, H4⟩, H5⟩ Hk
  iapply (load_all c _ i.x) $$ H0
  iintro H0
  iapply (load_all c _ i.wq) $$ H1
  iintro H1
  iapply (load_all c _ i.wo) $$ H4
  iintro H4
  iapply (attn_run A c 0 _ _ i.k i.v) $$ [H2 H3 H5]
  · isplitl [H2]; · iexact H2
    isplitl [H3] <;> iassumption
  iintro ⟨H2, H3, H5⟩
  iapply (attn_run A c 1 _ _ i.k i.v) $$ [H2 H3 H5]
  · isplitl [H2]; · iexact H2
    isplitl [H3] <;> iassumption
  iintro ⟨H2, H3, H5⟩
  iapply (attn_run A c 2 _ _ i.k i.v) $$ [H2 H3 H5]
  · isplitl [H2]; · iexact H2
    isplitl [H3] <;> iassumption
  iintro ⟨H2, H3, H5⟩
  iapply (attn_run A c 3 _ _ i.k i.v) $$ [H2 H3 H5]
  · isplitl [H2]; · iexact H2
    isplitl [H3] <;> iassumption
  iintro ⟨H2, H3, H5⟩
  iapply Hk
  isplitl [H0 H1 H2 H3 H4]
  · isplitl [H0]; · iexact H0
    isplitl [H1]; · iexact H1
    isplitl [H2]; · iexact H2
    isplitl [H3] <;> iassumption
  rw [← overlays_part i Z]
  iexact H5

end Cert.KernelIdeal.Own

end
-- ==== Proof.KernelIdeal.Exchange.lean ====
module

public import proofs.«01_k».proof.Proof.KernelIdeal.Phases

/-! # The two rounds of copies -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (A : Args) (hA : A.Std) (I : Dev nD → Ins F) (K : GSem nD τ sig → ℕ) (c : Dev nD)

variable {Q : PUnit → sProp (MT nD τ sig Unit (Elt F) ℕ UU ℕ)}

theorem mayWait0 (f : Fin 4) (j : Fin 15) :
    (levAts L lv : sProp 𝕄) ⊢ MayWait (c : Thread nD τ) (.dma (ds f j)) () (0 : CellTallies nD τ sig Unit) := by
  rw [MayWait_zero]; iintro -; iempintro

/-! ## The first round -/

/-- What one copy of the first round needs: the sending slot, the peer's slot, the two duties' tokens
    and that both cells are open. -/
def outNeed (j : Fin 15) : sProp 𝕄 :=
  iprop((∃ Y : S64x1024.Idx → Elt F .bf16, owns (c : Thread nD τ) (slot A.a6 j) fullShare Y)
    ∗ (∃ Y : S64x1024.Idx → Elt F .bf16, owns (nx c j : Thread nD τ) (slot A.a7 j) fullShare Y)
    ∗ dutyTok ER (dCell 0 c j) 0 0 ∗ reached ER (dCell 0 c j) 0
    ∗ dutyTok ER (dCell 1 (nx c j) j) 0 0 ∗ reached ER (dCell 1 (nx c j) j) 0)

include hA in
/-- The first round of copies out. -/
theorem sendOut_run (W : Waits sig Unit) (k : P F) : ∀ l : List (Fin 15),
    iprop(recs A I K ∗ owns (c : Thread nD τ) A.a5 fullShare (partOf (I c)) ∗ owes (c : Thread nD τ) (owed1 c l) W
        ∗ bigSepL l fun j => outNeed A c j)
      ⊢ iprop((owns (c : Thread nD τ) A.a5 fullShare (partOf (I c)) ∗ owes (c : Thread nD τ) (owed3 c slots) W
              ∗ bigSepL l (fun j => cred (tallyAt (dCell 0 c j) () N))
            -∗ wp frame (wpE (defs₀ (F := F)) 𝒱₀ (c : Thread nD τ) none) Set.univ k Q)
          -∗ wp frame (wpE (defs₀ (F := F)) 𝒱₀ (c : Thread nD τ) none) Set.univ (sendOut A c (l.map fun j => (j, nx c j)) k) Q)
  | [] => by
    rw [owed1_nil, List.map_nil, show sendOut A c [] k = k from rfl]
    iintro ⟨-, H5, HO, -⟩ Hk
    iapply Hk
    isplitl [H5]; · iexact H5
    isplitl [HO]; · iexact HO
    rw [bigSepL_nil]; iempintro
  | j :: l => by
    rw [bigSepL_cons', List.map_cons]
    unfold sendOut
    simp only [hA.s0 j, hA.s1 j]
    unfold outNeed
    iintro ⟨#HR, H5, HO, ⟨⟨⟨%Y, H6⟩, H7, HT0, Hr0, HT1, Hr1⟩, Hl⟩⟩ Hk
    ihave #HI0 := (recs_dma A I K 0 c j) $$ HR
    ihave #HI1 := (recs_dma A I K 1 (nx c j) j) $$ HR
    iapply (owns_load 𝒱₀ (c : Thread nD τ) none Set.univ) $$ H5
    iintro H5
    iapply (owns_load_slot 𝒱₀ (c : Thread nD τ) none Set.univ (hr := fun _ => rfl) (hs := squeezes_S1x64x1024_S64x1024)) $$ H6
    iintro H6
    iapply (owns_store_slot 𝒱₀ (c : Thread nD τ) none Set.univ (hr := fun _ => rfl) (hs := squeezes_S1x64x1024_S64x1024)) $$ H6
    iintro H6
    iapply (owns_send 𝒱₀ (c : Thread nD τ) none Set.univ ER (Rd A I) (c' := (nx c j : Thread nD τ)) (src := slot A.a6 j) (dst := slot A.a7 j)
      (sS := .dma (ds 0 j)) (sem := .dma (ds 1 j)) (q := fullShare) (X := sent I c j) (d₁ := 0) (d₂ := 0)
      (κ₁ := K (dCell 0 c j)) (κ₂ := K (dCell 1 (nx c j) j))
      (mem_dma A I c 0 j) (mem_dma A I (nx c j) 1 j) () N rfl rfl rfl (owed1 c l) (owedL_cons _ _ j l (owed3 c slots)) (W := W)
      (by rw [payload0]; unfold pay0; iintro H; iexists _; iexact H)
      (by rw [payload1]; unfold pay1; rw [pv_nx])) $$ [H6 H7 HO HT0 Hr0 HT1 Hr1]
    · isplitr; · iexact HI0
      isplitr; · iexact HI1
      isplitl [H6]; · iexact H6
      isplitl [H7]; · iexact H7
      isplitl [HO]; · iexact HO
      isplitl [HT0]; · iexact HT0
      isplitl [Hr0]; · iexact Hr0
      isplitl [HT1]; · iexact HT1
      iexact Hr1
    iintro ⟨HC, HO⟩
    iapply (sendOut_run W k l) $$ [H5 HO Hl]
    · isplitr; · iexact HR
      isplitl [H5]; · iexact H5
      isplitl [HO]; · iexact HO
      iexact Hl
    iintro ⟨H5, HO, Hl⟩
    iapply Hk
    isplitl [H5]; · iexact H5
    isplitl [HO]; · iexact HO
    rw [bigSepL_cons']
    isplitl [HC]; · iexact HC
    iexact Hl

include hA in
/-- The chunks received, added up. -/
theorem addIn_run (k : FVec F S64x1024 .f32 → P F) : ∀ (l : List (Fin 15)) (a : FVec F S64x1024 .f32),
    iprop(recs A I K ∗ levAts L lv ∗ (∃ W, owes (c : Thread nD τ) (owed3 c slots) W)
        ∗ bigSepL l fun j => iprop(cred (tallyAt (dCell 1 c j) () N) ∗ atPos ER (dCell 1 c j) 0 ∅ 0))
      ⊢ iprop(((∃ W, owes (c : Thread nD τ) (owed3 c slots) W)
              ∗ bigSepL l (fun j => iprop(atPos ER (dCell 1 c j) (0 + 1) ∅ 0 ∗ pay1 A I c j))
            -∗ wp frame (wpE (defs₀ (F := F)) 𝒱₀ (c : Thread nD τ) none) Set.univ (k (accL I c l a)) Q)
          -∗ wp frame (wpE (defs₀ (F := F)) 𝒱₀ (c : Thread nD τ) none) Set.univ (addIn A l a k) Q)
  | [], a => by
    rw [show addIn A [] a k = k a from rfl, show accL I c [] a = a from rfl]
    iintro ⟨-, -, HO, -⟩ Hk
    iapply Hk
    isplitl [HO]; · iexact HO
    rw [bigSepL_nil]; iempintro
  | j :: l, a => by
    rw [bigSepL_cons']
    unfold addIn
    rw [hA.s1 j]
    iintro ⟨#HR, #HL, HO, ⟨⟨HC, HA⟩, Hl⟩⟩ Hk
    iapply (wait_run A I K c 1 j (owed3 c slots) (mayWait1 c j)) $$ [HC HO HA]
    · isplitr; · iexact HR
      isplitr; · iexact HL
      isplitl [HC]; · iexact HC
      isplitl [HO]; · iexact HO
      iexact HA
    iintro ⟨HO, HA, HP⟩
    ihave HP' := (show dmaPay A I c (1 : Fin 4).val j ⊢ owns (c : Thread nD τ) (slot A.a7 j) fullShare (sent I (pv c j) j) from .rfl) $$ HP
    iapply (owns_load_slot 𝒱₀ (c : Thread nD τ) none Set.univ (hr := fun _ => rfl) (hs := squeezes_S1x64x1024_S64x1024)) $$ HP'
    iintro HP'
    iapply (addIn_run k l (accStep a (got I c j))) $$ [HO Hl]
    · isplitr; · iexact HR
      isplitr; · iexact HL
      isplitl [HO]; · iexact HO
      iexact Hl
    iintro ⟨HO, Hl⟩
    iapply Hk
    isplitl [HO]; · iexact HO
    rw [bigSepL_cons']
    isplitl [HA HP']
    · isplitl [HA]; · iexact HA
      unfold pay1; iexact HP'
    iexact Hl

/-- Between the rounds: the reduced chunk is stored for the copies. -/
theorem publish_run (X : Vec F S1024x1024 .f32) (k : P F) :
    iprop((∃ Y : S64x1024.Idx → Elt F .bf16, owns (c : Thread nD τ) A.a9 fullShare Y) ∗ owns (c : Thread nD τ) A.a5 fullShare X)
      ⊢ iprop((owns (c : Thread nD τ) A.a9 fullShare (red I c)
              ∗ owns (c : Thread nD τ) A.a5 fullShare ((rOwn c).overlay X (accOf I c))
            -∗ wp frame (wpE (defs₀ (F := F)) 𝒱₀ (c : Thread nD τ) none) Set.univ k Q)
          -∗ wp frame (wpE (defs₀ (F := F)) 𝒱₀ (c : Thread nD τ) none) Set.univ (publish A c (accOf I c) k) Q) := by
  unfold publish
  iintro ⟨⟨%Y, H9⟩, H5⟩ Hk
  iapply (owns_load 𝒱₀ (c : Thread nD τ) none Set.univ) $$ H9
  iintro H9
  iapply (owns_store 𝒱₀ (c : Thread nD τ) none Set.univ) $$ H9
  iintro H9
  iapply (owns_load 𝒱₀ (c : Thread nD τ) none Set.univ) $$ H5
  iintro H5
  iapply (owns_store 𝒱₀ (c : Thread nD τ) none Set.univ) $$ H5
  iintro H5
  iapply Hk
  isplitl [H9]
  · rw [← overlay_red I c Y]; iexact H9
  iexact H5

/-! ## The second round -/

/-- What one copy of the second round needs. -/
def redNeed (j : Fin 15) : sProp 𝕄 :=
  iprop(owns (c : Thread nD τ) A.a9 (shareAt j.val).left (red I c)
    ∗ (∃ Y : S64x1024.Idx → Elt F .bf16, owns (nx c j : Thread nD τ) (A.a8.slice (rOwn' c) (fun _ => rfl)) fullShare Y)
    ∗ dutyTok ER (dCell 2 c j) 0 0 ∗ reached ER (dCell 2 c j) 0
    ∗ dutyTok ER (dCell 3 (nx c j) j) 0 0 ∗ reached ER (dCell 3 (nx c j) j) 0)

include hA in
/-- The second round of copies out. -/
theorem sendRed_run (W : Waits sig Unit) (k : P F) : ∀ l : List (Fin 15),
    iprop(recs A I K ∗ owes (c : Thread nD τ) (owed3 c l) W ∗ bigSepL l fun j => redNeed A I c j)
      ⊢ iprop((owes (c : Thread nD τ) (0 : CellTallies nD τ sig Unit) W ∗ bigSepL l (fun j => cred (tallyAt (dCell 2 c j) () N))
            -∗ wp frame (wpE (defs₀ (F := F)) 𝒱₀ (c : Thread nD τ) none) Set.univ k Q)
          -∗ wp frame (wpE (defs₀ (F := F)) 𝒱₀ (c : Thread nD τ) none) Set.univ (sendRed A c (l.map fun j => (j, nx c j)) k) Q)
  | [] => by
    rw [show owed3 c [] = 0 from rfl, List.map_nil, show sendRed A c [] k = k from rfl]
    iintro ⟨-, HO, -⟩ Hk
    iapply Hk
    isplitl [HO]; · iexact HO
    rw [bigSepL_nil]; iempintro
  | j :: l => by
    rw [bigSepL_cons', List.map_cons]
    unfold sendRed
    simp only [hA.s2 j, hA.s3 j]
    unfold redNeed
    iintro ⟨#HR, HO, ⟨⟨H9, H8, HT0, Hr0, HT1, Hr1⟩, Hl⟩⟩ Hk
    ihave #HI0 := (recs_dma A I K 2 c j) $$ HR
    ihave #HI1 := (recs_dma A I K 3 (nx c j) j) $$ HR
    iapply (owns_send 𝒱₀ (c : Thread nD τ) none Set.univ ER (Rd A I) (c' := (nx c j : Thread nD τ)) (src := A.a9)
      (dst := A.a8.slice (rOwn' c) (fun _ => rfl))
      (sS := .dma (ds 2 j)) (sem := .dma (ds 3 j)) (q := (shareAt j.val).left) (X := red I c) (d₁ := 0) (d₂ := 0)
      (κ₁ := K (dCell 2 c j)) (κ₂ := K (dCell 3 (nx c j) j))
      (mem_dma A I c 2 j) (mem_dma A I (nx c j) 3 j) () N rfl rfl rfl (owed3 c l) rfl (W := W)
      (by rw [payload2]; unfold pay2; exact .rfl)
      (by rw [payload3]; unfold pay3; rw [pv_nx])) $$ [H9 H8 HO HT0 Hr0 HT1 Hr1]
    · isplitr; · iexact HI0
      isplitr; · iexact HI1
      isplitl [H9]; · iexact H9
      isplitl [H8]; · iexact H8
      isplitl [HO]; · iexact HO
      isplitl [HT0]; · iexact HT0
      isplitl [Hr0]; · iexact Hr0
      isplitl [HT1]; · iexact HT1
      iexact Hr1
    iintro ⟨HC, HO⟩
    iapply (sendRed_run W k l) $$ [HO Hl]
    · isplitr; · iexact HR
      isplitl [HO]; · iexact HO
      iexact Hl
    iintro ⟨HO, Hl⟩
    iapply Hk
    isplitl [HO]; · iexact HO
    rw [bigSepL_cons']
    isplitl [HC]; · iexact HC
    iexact Hl

include hA in
/-- The waits for the peers' reduced chunks. -/
theorem recvRed_run (k : P F) : ∀ l : List (Fin 15),
    iprop(recs A I K ∗ levAts L lv ∗ (∃ W, owes (c : Thread nD τ) (0 : CellTallies nD τ sig Unit) W)
        ∗ bigSepL l fun j => iprop(cred (tallyAt (dCell 3 c j) () N) ∗ atPos ER (dCell 3 c j) 0 ∅ 0))
      ⊢ iprop(((∃ W, owes (c : Thread nD τ) (0 : CellTallies nD τ sig Unit) W)
              ∗ bigSepL l (fun j => iprop(atPos ER (dCell 3 c j) (0 + 1) ∅ 0 ∗ pay3 A I c j))
            -∗ wp frame (wpE (defs₀ (F := F)) 𝒱₀ (c : Thread nD τ) none) Set.univ k Q)
          -∗ wp frame (wpE (defs₀ (F := F)) 𝒱₀ (c : Thread nD τ) none) Set.univ (recvRed A c l k) Q)
  | [] => by
    rw [show recvRed A c [] k = k from rfl]
    iintro ⟨-, -, HO, -⟩ Hk
    iapply Hk
    isplitl [HO]; · iexact HO
    rw [bigSepL_nil]; iempintro
  | j :: l => by
    rw [bigSepL_cons']
    unfold recvRed
    rw [hA.s3 j]
    iintro ⟨#HR, #HL, HO, ⟨⟨HC, HA⟩, Hl⟩⟩ Hk
    iapply (wait_run A I K c 3 j 0 (mayWait0 c 3 j)) $$ [HC HO HA]
    · isplitr; · iexact HR
      isplitr; · iexact HL
      isplitl [HC]; · iexact HC
      isplitl [HO]; · iexact HO
      iexact HA
    iintro ⟨HO, HA, HP⟩
    ihave HP := (show dmaPay A I c (3 : Fin 4).val j ⊢ pay3 A I c j from .rfl) $$ HP
    iapply (recvRed_run k l) $$ [HO Hl]
    · isplitr; · iexact HR
      isplitr; · iexact HL
      isplitl [HO]; · iexact HO
      iexact Hl
    iintro ⟨HO, Hl⟩
    iapply Hk
    isplitl [HO]; · iexact HO
    rw [bigSepL_cons']
    isplitl [HA HP]
    · isplitl [HA]; · iexact HA
      iexact HP
    iexact Hl

/-- The last stores leave the output. -/
theorem finish_run (X : Vec F S1024x1024 .f32) (Y : Vec F S64x1024 .bf16) (k : P F) :
    iprop(owns (c : Thread nD τ) A.a8 fullShare (gathered I c Y) ∗ owns (c : Thread nD τ) A.a5 fullShare X)
      ⊢ iprop((owns (c : Thread nD τ) A.a8 fullShare (gathered I c Y) ∗ owns (c : Thread nD τ) A.a5 fullShare (outOf I c)
            -∗ wp frame (wpE (defs₀ (F := F)) 𝒱₀ (c : Thread nD τ) none) Set.univ k Q)
          -∗ wp frame (wpE (defs₀ (F := F)) 𝒱₀ (c : Thread nD τ) none) Set.univ (finish A c (accOf I c) k) Q) := by
  unfold finish
  iintro ⟨H8, H5⟩ Hk
  iapply (owns_load 𝒱₀ (c : Thread nD τ) none Set.univ) $$ H8
  iintro H8
  iapply (owns_load 𝒱₀ (c : Thread nD τ) none Set.univ) $$ H5
  iintro H5
  iapply (owns_store 𝒱₀ (c : Thread nD τ) none Set.univ) $$ H5
  iintro H5
  iapply (owns_load 𝒱₀ (c : Thread nD τ) none Set.univ) $$ H5
  iintro H5
  iapply (owns_store 𝒱₀ (c : Thread nD τ) none Set.univ) $$ H5
  iintro H5
  iapply Hk
  isplitl [H8]; · iexact H8
  rw [← overlay_out I c X Y]
  iexact H5

/-! ## Draining the sends -/

/-- What the drain leaves at position `j`. -/
def drained (j : Fin 15) : sProp 𝕄 :=
  iprop((atPos ER (dCell 0 c j) (0 + 1) ∅ 0 ∗ atPos ER (dCell 2 c j) (0 + 1) ∅ 0) ∗ pay0 A c j ∗ pay2 A I c j)

include hA in
/-- The waits that drain both rounds' sends. -/
theorem drain_run : ∀ l : List (Fin 15),
    iprop(recs A I K ∗ levAts L lv ∗ (∃ W, owes (c : Thread nD τ) (0 : CellTallies nD τ sig Unit) W)
        ∗ bigSepL l fun j => iprop((cred (tallyAt (dCell 0 c j) () N) ∗ atPos ER (dCell 0 c j) 0 ∅ 0)
          ∗ (cred (tallyAt (dCell 2 c j) () N) ∗ atPos ER (dCell 2 c j) 0 ∅ 0)))
      ⊢ iprop(((∃ W, owes (c : Thread nD τ) (0 : CellTallies nD τ sig Unit) W) ∗ bigSepL l (fun j => drained A I c j)
            -∗ |={Set.univ}=> Q ⟨⟩)
          -∗ wp frame (wpE (defs₀ (F := F)) 𝒱₀ (c : Thread nD τ) none) Set.univ (drain A c l) Q)
  | [] => by
    rw [show drain (F := F) A c [] = .ret ⟨⟩ from rfl, wp_ret]
    iintro ⟨-, -, HO, -⟩ Hk
    iapply Hk
    isplitl [HO]; · iexact HO
    rw [bigSepL_nil]; iempintro
  | j :: l => by
    rw [bigSepL_cons']
    unfold drain
    rw [hA.s0 j, hA.s2 j]
    iintro ⟨#HR, #HL, HO, ⟨⟨⟨HC0, HA0⟩, ⟨HC2, HA2⟩⟩, Hl⟩⟩ Hk
    iapply (wait_run A I K c 0 j 0 (mayWait0 c 0 j)) $$ [HC0 HO HA0]
    · isplitr; · iexact HR
      isplitr; · iexact HL
      isplitl [HC0]; · iexact HC0
      isplitl [HO]; · iexact HO
      iexact HA0
    iintro ⟨HO, HA0, HP0⟩
    ihave HP0 := (show dmaPay A I c (0 : Fin 4).val j ⊢ pay0 A c j from .rfl) $$ HP0
    iapply (wait_run A I K c 2 j 0 (mayWait0 c 2 j)) $$ [HC2 HO HA2]
    · isplitr; · iexact HR
      isplitr; · iexact HL
      isplitl [HC2]; · iexact HC2
      isplitl [HO]; · iexact HO
      iexact HA2
    iintro ⟨HO, HA2, HP2⟩
    ihave HP2 := (show dmaPay A I c (2 : Fin 4).val j ⊢ pay2 A I c j from .rfl) $$ HP2
    iapply (drain_run l) $$ [HO Hl]
    · isplitr; · iexact HR
      isplitr; · iexact HL
      isplitl [HO]; · iexact HO
      iexact Hl
    iintro ⟨HO, Hl⟩
    iapply Hk
    isplitl [HO]; · iexact HO
    rw [bigSepL_cons']
    isplitl [HA0 HA2 HP0 HP2]
    · unfold drained
      isplitl [HA0 HA2]
      · isplitl [HA0] <;> iassumption
      isplitl [HP0]; · iexact HP0
      iexact HP2
    iexact Hl

end Cert.KernelIdeal.Own

end
-- ==== Proof.KernelIdeal.Buffers.lean ====
module

public import proofs.«01_k».proof.Proof.KernelIdeal.Exchange
public import proofs.«01_k».proof.Proof.Common.Split

/-! # The scratch buffers, split among the positions and put together again -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (A : Args) (I : Dev nD → Ins F) (c : Dev nD)

/-- The slots, as a set. -/
theorem univ_slots : (Finset.univ : Finset (Fin 15)) = slots.toFinset := by decide
/-- The devices from `c` on, as a set. -/
theorem univ_after (c : Dev nD) : (Finset.univ : Finset (Dev nD)) = (c :: slots.map (nx c)).toFinset := by revert c; decide
/-- The devices down from `c`, as a set. -/
theorem univ_before (c : Dev nD) : (Finset.univ : Finset (Dev nD)) = (c :: slots.map (pv c)).toFinset := by revert c; decide
/-- The slots backwards. -/
theorem relist_rev (Φ : Fin 15 → sProp (MT nD τ sig Unit (Elt F) ℕ UU ℕ)) : bigSepL slots Φ = bigSepL slots fun j => Φ j.rev :=
  (bigSepL_relist univ_slots nodup_slots (l' := slots.map Fin.rev) (by decide) (by decide) Φ).trans (bigSepL_map _ _ _)

/-! ## Fifteen slots -/

theorem slot_disjoint (j j' : Fin 15) (h : j ≠ j') : Disjoint (rSlot j).set (rSlot j').set :=
  Rect.unit_disjoint (0 : Fin 3) (by
    have h' : j.val ≠ j'.val := fun e => h (Fin.ext e)
    show j.val + 1 ≤ j'.val ∨ j'.val + 1 ≤ j.val
    omega)

theorem slot_cover : (Finset.univ : Finset (Fin 15)).biUnion (fun j => (rSlot j).set) = Finset.univ := by
  refine Finset.eq_univ_of_forall fun x => Finset.mem_biUnion.mpr ⟨(x 0 : Fin 15), Finset.mem_univ _, ?_⟩
  rw [Rect.mem_set_unit]
  intro a
  refine Fin.cases ?_ (fun a => Fin.cases ?_ (fun a => Fin.cases ?_ (fun a => a.elim0) a) a) a
  · exact ⟨le_refl _, Nat.lt_succ_self _⟩
  · exact ⟨Nat.zero_le _, by have := (x 1).isLt; show (x 1).val < 0 + 64; rw [Nat.zero_add]; exact this⟩
  · exact ⟨Nat.zero_le _, by have := (x 2).isLt; show (x 2).val < 0 + 1024; rw [Nat.zero_add]; exact this⟩

/-- A buffer of fifteen chunks is its slots. -/
theorem slots_split (m : Memref sig .tc .vmem S15x64x1024 .bf16) :
    (iprop(∃ X : S15x64x1024.Idx → Elt F .bf16, owns (c : Thread nD τ) m fullShare X) : sProp 𝕄)
      ⊢ bigSepL slots fun j => iprop(∃ Y : S64x1024.Idx → Elt F .bf16, owns (c : Thread nD τ) (slot m j) fullShare Y) := by
  refine (any_rects (c : Thread nD τ) rSlot (fun _ _ => rfl) slot_disjoint slot_cover m fullShare).trans ?_
  rw [bigSep_univ_eq_bigSepL slots univ_slots nodup_slots]
  refine bigSepL_mono fun j _ => ?_
  iintro ⟨%Y, H⟩
  iexists (fun i => Y (Shape.reshapeEquiv (squeezes_S1x64x1024_S64x1024).numel_eq i))
  iapply (owns_squeeze (c : Thread nD τ) (m.slice (rSlot j) fun _ => rfl) squeezes_S1x64x1024_S64x1024 fullShare _).2
  simp only [Equiv.apply_symm_apply]
  iexact H

/-- And back. -/
theorem slots_join (m : Memref sig .tc .vmem S15x64x1024 .bf16) :
    (bigSepL slots fun j => iprop(∃ Y : S64x1024.Idx → Elt F .bf16, owns (c : Thread nD τ) (slot m j) fullShare Y))
      ⊢ (iprop(∃ X : S15x64x1024.Idx → Elt F .bf16, owns (c : Thread nD τ) m fullShare X) : sProp 𝕄) := by
  refine BIBase.Entails.trans ?_ (any_of_rects (c : Thread nD τ) rSlot (fun _ _ => rfl) slot_disjoint slot_cover m fullShare)
  rw [bigSep_univ_eq_bigSepL slots univ_slots nodup_slots]
  refine bigSepL_mono fun j _ => ?_
  iintro ⟨%Y, H⟩
  iexists _
  iapply (owns_squeeze (c : Thread nD τ) (m.slice (rSlot j) fun _ => rfl) squeezes_S1x64x1024_S64x1024 fullShare Y).1
  iexact H

/-! ## Sixteen chunks -/

theorem chunk_disjoint (d d' : Dev nD) (h : d ≠ d') : Disjoint (rOwn' d).set (rOwn' d').set :=
  Rect.unit_disjoint (0 : Fin 2) (by
    have h' : d.val ≠ d'.val := fun e => h (Fin.ext e)
    rw [k0_off3_eq, k0_off3_eq]
    show 64 * d.val + 64 ≤ 64 * d'.val ∨ 64 * d'.val + 64 ≤ 64 * d.val
    omega)

theorem chunk_cover : (Finset.univ : Finset (Dev nD)).biUnion (fun d => (rOwn' d).set) = Finset.univ := by
  refine Finset.eq_univ_of_forall fun x => ?_
  have hx : (x 0).val < 1024 := (x 0).isLt
  refine Finset.mem_biUnion.mpr ⟨(⟨(x 0).val / 64, by show _ < 16; omega⟩ : Dev nD), Finset.mem_univ _, ?_⟩
  rw [Rect.mem_set_unit]
  intro a
  rw [k0_off3_eq]
  refine Fin.cases ?_ (fun a => Fin.cases ?_ (fun a => a.elim0) a) a
  · show 64 * ((x 0).val / 64) ≤ (x 0).val ∧ (x 0).val < 64 * ((x 0).val / 64) + 64
    omega
  · exact ⟨Nat.zero_le _, by have := (x 1).isLt; show (x 1).val < 0 + 1024; rw [Nat.zero_add]; exact this⟩

/-- The gather buffer is the device's own rows and the rows of the devices after it. -/
theorem gather_split :
    (iprop(∃ X : S1024x1024.Idx → Elt F .bf16, owns (c : Thread nD τ) A.a8 fullShare X) : sProp 𝕄)
      ⊢ iprop((∃ Y : S64x1024.Idx → Elt F .bf16, owns (c : Thread nD τ) (A.a8.slice (rOwn' c) fun _ => rfl) fullShare Y)
        ∗ bigSepL slots fun j => iprop(∃ Y : S64x1024.Idx → Elt F .bf16, owns (c : Thread nD τ) (A.a8.slice (rOwn' (nx c j)) fun _ => rfl) fullShare Y)) := by
  refine (any_rects (c : Thread nD τ) rOwn' (fun _ _ => rfl) chunk_disjoint chunk_cover A.a8 fullShare).trans ?_
  rw [bigSep_univ_eq_bigSepL _ (univ_after c) (nodup_after c), bigSepL_cons' c, bigSepL_map]
  exact .rfl

/-- The own rows and what arrived in the others' are the gathered buffer. -/
theorem gather_join (Y : Vec F S64x1024 .bf16) :
    iprop(owns (c : Thread nD τ) (A.a8.slice (rOwn' c) fun _ => rfl) fullShare Y ∗ bigSepL slots fun j => pay3 A I c j)
      ⊢ (owns (c : Thread nD τ) A.a8 fullShare (gathered I c Y) : sProp 𝕄) := by
  refine BIBase.Entails.trans ?_ (owns_of_rects (c : Thread nD τ) A.a8 fullShare rOwn' (fun _ _ => rfl) chunk_disjoint chunk_cover (gathered I c Y))
  rw [bigSep_univ_eq_bigSepL _ (univ_before c) (nodup_before c), bigSepL_cons' c, bigSepL_map]
  refine sep_mono (Entails.of_eq ?_) (bigSepL_mono fun j _ => Entails.of_eq ?_)
  · exact congrArg (owns (c : Thread nD τ) (A.a8.slice (rOwn' c) fun _ => rfl) fullShare)
      ((gathered_emb I c Y c).trans (if_pos rfl)).symm
  · exact congrArg (owns (c : Thread nD τ) (A.a8.slice (rOwn' (pv c j)) fun _ => rfl) fullShare)
      ((gathered_emb I c Y (pv c j)).trans (if_neg (by revert c j; decide))).symm

/-! ## Shares of the reduced chunk -/

theorem shares_eq (X : Vec F S64x1024 .bf16) (k n : ℕ) :
    (owns (c : Thread nD τ) A.a9 (shareAt n) X : sProp 𝕄)
      ⊣⊢ iprop(bigSepL (List.range' n k) (fun i => owns (c : Thread nD τ) A.a9 (shareAt i).left X)
        ∗ owns (c : Thread nD τ) A.a9 (shareAt (n + k)) X) := by
  induction k generalizing n with
  | zero =>
    rw [List.range'_zero, bigSepL_nil]
    constructor
    · iintro H; isplitr
      · iempintro
      iexact H
    · iintro ⟨-, H⟩; iexact H
  | succ k ih =>
    rw [List.range'_succ, bigSepL_cons']
    have hn : n + (k + 1) = n + 1 + k := by omega
    rw [hn]
    constructor
    · iintro H
      ihave H := (owns_halves (c : Thread nD τ) A.a9 (shareAt n) X).1 $$ H
      icases H with ⟨Hl, Hr⟩
      ihave Hr := (show (owns (c : Thread nD τ) A.a9 (shareAt n).right X : sProp 𝕄) ⊢ _ from (ih (n + 1)).1) $$ Hr
      icases Hr with ⟨Hs, Hr⟩
      isplitl [Hl Hs]
      · isplitl [Hl] <;> iassumption
      iexact Hr
    · iintro ⟨⟨Hl, Hs⟩, Hr⟩
      iapply (owns_halves (c : Thread nD τ) A.a9 (shareAt n) X).2
      isplitl [Hl]; · iexact Hl
      iapply (show _ ⊢ (owns (c : Thread nD τ) A.a9 (shareAt n).right X : sProp 𝕄) from (ih (n + 1)).2)
      isplitl [Hs] <;> iassumption

/-- The reduced chunk is fifteen shares and a rest. -/
theorem shares (X : Vec F S64x1024 .bf16) :
    (owns (c : Thread nD τ) A.a9 fullShare X : sProp 𝕄)
      ⊣⊢ iprop(bigSepL slots (fun j => owns (c : Thread nD τ) A.a9 (shareAt j.val).left X) ∗ owns (c : Thread nD τ) A.a9 (shareAt 15) X) := by
  have h := shares_eq A c X 15 0
  rw [show List.range' 0 15 = slots.map Fin.val from rfl, bigSepL_map] at h
  exact h

end Cert.KernelIdeal.Own

end
-- ==== Proof.KernelIdeal.Run.lean ====
module

public import proofs.«01_k».proof.Proof.KernelIdeal.Buffers

/-! # The whole body on one device

What a device starts with, what it ends with, and that the body leads from the one to the other. -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

/-- The tokens of the duties a device pays: at every position its unit of the peer's barrier and the four cells of its two copies. -/
def toks (c : Dev nD) : sProp 𝕄 :=
  bigSepL slots fun j => iprop(dutyTok ER (barCell (nx c j)) 0 j.rev ∗ dutyTok ER (dCell 0 c j) 0 0
    ∗ dutyTok ER (dCell 1 (nx c j) j) 0 0 ∗ dutyTok ER (dCell 2 c j) 0 0 ∗ dutyTok ER (dCell 3 (nx c j) j) 0 0)

/-- The credit a device waits with from launch on: its barrier's units and both rounds' arrivals. -/
def credits (c : Dev nD) : sProp 𝕄 :=
  iprop(cred (tallyAt (barCell c) () 15)
    ∗ bigSepL slots fun j => iprop(cred (tallyAt (dCell 1 c j) () N) ∗ cred (tallyAt (dCell 3 c j) () N)))

/-- One copy cell, opened. -/
def openAt (c : Dev nD) (f : Fin 4) (j : Fin 15) : sProp 𝕄 := iprop(atPos ER (dCell f c j) 0 ∅ 0 ∗ reached ER (dCell f c j) 0)

/-- A device's copy cells, opened. -/
def opened (c : Dev nD) : sProp 𝕄 :=
  bigSepL slots fun j => iprop(openAt c 0 j ∗ openAt c 1 j ∗ openAt c 2 j ∗ openAt c 3 j)

/-- A device's copy cells' counters at zero. -/
def counters (c : Dev nD) : sProp 𝕄 :=
  bigSepL slots fun j => iprop(semVal (dCell 0 c j) 0 ∗ semVal (dCell 1 c j) 0 ∗ semVal (dCell 2 c j) 0 ∗ semVal (dCell 3 c j) 0)

variable (A : Args) (I : Dev nD → Ins F)

/-- The four scratch buffers, at contents not chosen. -/
def scratch (c : Dev nD) : sProp 𝕄 :=
  iprop((∃ X : S15x64x1024.Idx → Elt F .bf16, owns (c : Thread nD τ) A.a6 fullShare X)
    ∗ (∃ X : S15x64x1024.Idx → Elt F .bf16, owns (c : Thread nD τ) A.a7 fullShare X)
    ∗ (∃ X : S1024x1024.Idx → Elt F .bf16, owns (c : Thread nD τ) A.a8 fullShare X)
    ∗ (∃ X : S64x1024.Idx → Elt F .bf16, owns (c : Thread nD τ) A.a9 fullShare X))

variable (K : GSem nD τ sig → ℕ) (c : Dev nD)

/-- The copy cells of one family closed: their counters are zero again. -/
theorem close_family (f : Fin 4) : ∀ l : List (Fin 15),
    iprop(recs A I K ∗ bigSepL l fun j => atPos ER (dCell f c j) (0 + 1) ∅ 0)
      ⊢ (|={Set.univ}=> bigSepL l (fun j => semVal (dCell f c j) 0) : sProp 𝕄)
  | [] => by
    rw [bigSepL_nil, bigSepL_nil]
    iintro -; imodintro; iempintro
  | j :: l => by
    rw [bigSepL_cons', bigSepL_cons']
    iintro ⟨#HR, HA, Hl⟩
    ihave #HI := (recs_dma A I K f c j) $$ HR
    imod (Rounds.cell_close ER (Rd A I) (κ := K (dCell f c j)) (Set.mem_univ _) id fun r hr => duties_later A I (dCell f c j) r hr) $$ [HA] with Hs
    · isplitr; · iexact HI
      iexact HA
    imod (close_family f l) $$ [Hl] with Hl
    · isplitr; · iexact HR
      iexact Hl
    imodintro
    isplitl [Hs] <;> iassumption

variable (hA : A.Std) {Q : PUnit → sProp (MT nD τ sig Unit (Elt F) ℕ UU ℕ)}

/-- What the signals hand over: own slots and rows, and that the receiving cells are open. -/
theorem signals_need :
    iprop((bigSepL slots fun j => iprop(∃ Y : S64x1024.Idx → Elt F .bf16, owns (c : Thread nD τ) (slot A.a7 j) fullShare Y))
        ∗ (bigSepL slots fun j => iprop(∃ Y : S64x1024.Idx → Elt F .bf16, owns (c : Thread nD τ) (A.a8.slice (rOwn' (nx c j)) fun _ => rfl) fullShare Y))
        ∗ (bigSepL slots fun j => reached ER (dCell 1 c j) 0) ∗ (bigSepL slots fun j => reached ER (dCell 3 c j) 0))
      ⊢ (bigSepL slots fun j => barPay A (nx c j) j.rev : sProp 𝕄) := by
  rw [relist_rev (fun j => iprop(∃ Y : S64x1024.Idx → Elt F .bf16, owns (c : Thread nD τ) (slot A.a7 j) fullShare Y)),
    relist_rev (fun j => (reached ER (dCell 1 c j) 0 : sProp 𝕄)), relist_rev (fun j => (reached ER (dCell 3 c j) 0 : sProp 𝕄)),
    ← bigSepL_sep_eq, ← bigSepL_sep_eq, ← bigSepL_sep_eq]
  refine bigSepL_mono fun j _ => ?_
  unfold barPay
  rw [nx_nx_rev]

include hA in
/-- The whole body. -/
theorem body_run (W : Waits sig Unit) :
    iprop(recs A I K ∗ levAts L lv ∗ atPos ER (barCell c) 0 ∅ 0 ∗ opened c ∗ toks c ∗ credits c ∗ ops A c (I c)
        ∗ (∃ Z : S1024x1024.Idx → Elt F .f32, owns (c : Thread nD τ) A.a5 fullShare Z) ∗ scratch A c ∗ owes (c : Thread nD τ) (O₀ c) W)
      ⊢ iprop(((semVal (barCell c) 0 ∗ counters c) ∗ ops A c (I c) ∗ owns (c : Thread nD τ) A.a5 fullShare (outOf I c) ∗ scratch A c
            ∗ (∃ W, owes (c : Thread nD τ) (0 : CellTallies nD τ sig Unit) W) -∗ Q ⟨⟩)
          -∗ wp frame (wpE (defs₀ (F := F)) 𝒱₀ (c : Thread nD τ) none) Set.univ (bodyOn A c) Q) := by
  have hsig := signals_run A I K c (Q := Q) W (.op (.semWait barS (15#32).toInt) fun _ => compute A <| exchange A c) slots
  rw [← sigDevs_eq] at hsig
  have hout := fun W k => sendOut_run A hA I K c (Q := Q) W k slots
  have hred := fun W k => sendRed_run A hA I K c (Q := Q) W k slots
  have hin := fun k a => addIn_run A hA I K c (Q := Q) k slots a
  have hrecv := fun k => recvRed_run A hA I K c (Q := Q) k slots
  have hdrain := drain_run A hA I K c (Q := Q) slots
  have hbar := fun W k => barrier_run A I K c (Q := Q) W k
  unfold outNeed at hout
  unfold redNeed at hred
  unfold drained at hdrain
  unfold barPay at hbar
  unfold opened openAt toks credits scratch counters
  unfold pay0 pay2 at hdrain
  simp only [bigSepL_sep_eq] at hsig hout hred hin hrecv hdrain hbar ⊢
  iintro ⟨#HR, #HL, HaB, ⟨⟨Ha0, #Hr0⟩, ⟨Ha1, #Hr1⟩, ⟨Ha2, #Hr2⟩, Ha3, #Hr3⟩, ⟨HtB, Ht0, Ht1, Ht2, Ht3⟩, ⟨HcB, Hc1, Hc3⟩, Hops, ⟨%Z, H5⟩,
    ⟨H6, H7, H8, H9⟩, HO⟩ Hk
  ihave H6 := (slots_split c A.a6) $$ H6
  ihave H7 := (slots_split c A.a7) $$ H7
  ihave H8 := (gather_split A c) $$ H8
  icases H8 with ⟨⟨%Y8, H8⟩, Hg⟩
  unfold bodyOn
  iapply hsig $$ [HO HtB H7 Hg]
  · isplitr; · iexact HR
    isplitl [HO]; · iexact HO
    isplitl [HtB]; · iexact HtB
    iapply (signals_need A c)
    isplitl [H7]; · iexact H7
    isplitl [Hg]; · iexact Hg
    isplitr; · iexact Hr1
    iexact Hr3
  iintro HO
  iapply (hbar _ _) $$ [HcB HO HaB]
  · isplitr; · iexact HR
    isplitr; · iexact HL
    isplitl [HcB]; · iexact HcB
    isplitl [HO] <;> iassumption
  iintro ⟨⟨%W1, HO⟩, HaB, Hp7, Hp8, #Hp1, #Hp3⟩
  iapply (compute_run A c (I c) Z _) $$ [Hops H5]
  · isplitl [Hops] <;> iassumption
  iintro ⟨Hops, H5⟩
  unfold exchange
  rw [outDevs_eq, gatDevs_eq]
  iapply (hout W1 _) $$ [H5 HO H6 Hp7 Ht0 Ht1]
  · isplitr; · iexact HR
    isplitl [H5]; · iexact H5
    isplitl [HO]; · iexact HO
    isplitl [H6]; · iexact H6
    isplitl [Hp7]; · iexact Hp7
    isplitl [Ht0]; · iexact Ht0
    isplitr; · iexact Hr0
    isplitl [Ht1]; · iexact Ht1
    iexact Hp1
  iintro ⟨H5, HO, Hc0⟩
  iapply (owns_load 𝒱₀ (c : Thread nD τ) none Set.univ) $$ H5
  iintro H5
  iapply (hin _ _) $$ [HO Hc1 Ha1]
  · isplitr; · iexact HR
    isplitr; · iexact HL
    isplitl [HO]; · iexists W1; iexact HO
    isplitl [Hc1] <;> iassumption
  iintro ⟨⟨%W2, HO⟩, Ha1, H7⟩
  iapply (publish_run A I c (partOf (I c)) _) $$ [H9 H5]
  · isplitl [H9] <;> iassumption
  iintro ⟨H9, H5⟩
  ihave H9 := (shares A c (red I c)).1 $$ H9
  icases H9 with ⟨H9s, H9⟩
  iapply (hred W2 _) $$ [HO H9s Hp8 Ht2 Ht3]
  · isplitr; · iexact HR
    isplitl [HO]; · iexact HO
    isplitl [H9s]; · iexact H9s
    isplitl [Hp8]; · iexact Hp8
    isplitl [Ht2]; · iexact Ht2
    isplitr; · iexact Hr2
    isplitl [Ht3]; · iexact Ht3
    iexact Hp3
  iintro ⟨HO, Hc2⟩
  iapply (hrecv _) $$ [HO Hc3 Ha3]
  · isplitr; · iexact HR
    isplitr; · iexact HL
    isplitl [HO]; · iexists W2; iexact HO
    isplitl [Hc3] <;> iassumption
  iintro ⟨HO, Ha3, Hg⟩
  ihave H8 := (gather_join A I c Y8) $$ [H8 Hg]
  · isplitl [H8] <;> iassumption
  iapply (finish_run A I c _ Y8 _) $$ [H8 H5]
  · isplitl [H8] <;> iassumption
  iintro ⟨H8, H5⟩
  iapply hdrain $$ [HO Hc0 Ha0 Hc2 Ha2]
  · isplitr; · iexact HR
    isplitr; · iexact HL
    isplitl [HO]; · iexact HO
    isplitl [Hc0 Ha0]
    · isplitl [Hc0] <;> iassumption
    isplitl [Hc2] <;> iassumption
  iintro ⟨HO, ⟨Ha0, Ha2⟩, H6, H9s⟩
  ihave #HB := (recs_bar A I K c) $$ HR
  icases HB with ⟨#HIB, -⟩
  imod (Rounds.cell_close ER (Rd A I) (κ := K (barCell c)) (Set.mem_univ _) id fun r hr => duties_later A I (barCell c) r hr) $$ [HaB] with HsB
  · isplitr; · iexact HIB
    iexact HaB
  imod (close_family A I K c 0 slots) $$ [Ha0] with Hs0
  · isplitr; · iexact HR
    iexact Ha0
  imod (close_family A I K c 1 slots) $$ [Ha1] with Hs1
  · isplitr; · iexact HR
    iexact Ha1
  imod (close_family A I K c 2 slots) $$ [Ha2] with Hs2
  · isplitr; · iexact HR
    iexact Ha2
  imod (close_family A I K c 3 slots) $$ [Ha3] with Hs3
  · isplitr; · iexact HR
    iexact Ha3
  imodintro
  iapply Hk
  isplitl [HsB Hs0 Hs1 Hs2 Hs3]
  · isplitl [HsB]; · iexact HsB
    isplitl [Hs0]; · iexact Hs0
    isplitl [Hs1]; · iexact Hs1
    isplitl [Hs2] <;> iassumption
  isplitl [Hops]; · iexact Hops
  isplitl [H5]; · iexact H5
  isplitr [HO]
  · isplitl [H6]; · iapply (slots_join c A.a6) $$ H6
    isplitl [H7]
    · iapply (slots_join c A.a7)
      iapply (show (bigSepL slots fun j => pay1 A I c j)
        ⊢ (bigSepL slots fun j => iprop(∃ Y : S64x1024.Idx → Elt F .bf16, owns (c : Thread nD τ) (slot A.a7 j) fullShare Y) : sProp 𝕄) from
          bigSepL_mono fun j _ => by unfold pay1; iintro H; iexists _; iexact H) $$ H7
    isplitl [H8]; · iexists _; iexact H8
    iexists (red I c)
    iapply (shares A c (red I c)).2
    isplitl [H9s] <;> iassumption
  iexact HO

end Cert.KernelIdeal.Own

end
-- ==== Proof.KernelIdeal.ProgEq.lean ====
module

public import proofs.«01_k».proof.Proof.KernelIdeal.Prog
public import Idealize.ShloMosaic.Lib.Pipeline.Regions

/-! # The loops are the printed body -/

@[expose] public section

set_option synthInstance.maxSize 4096

noncomputable section

namespace Cert.KernelIdeal.Own

open Idealize.ShloMosaic Idealize.ShloMosaic.TcCoe Idealize.SL.Sem
open Cert.KernelIdeal Cert.KernelIdeal.Gen

variable {F : FTy → Type} [FloatOps F] [Named F]

set_option maxRecDepth 65536 in
/-- The printed body is the loops: by definitional unfolding. -/
theorem body_eq (A : Args) :
    (cc0_body A.a0 A.h0 A.a1 A.h1 A.a2 A.h2 A.a3 A.h3 A.a4 A.h4 A.a5 A.h5 A.a6 A.h6 A.a7 A.h7 A.a8 A.h8 A.a9 A.h9
      A.a10 A.a11 A.a12 A.a13 : P F) = body A := by
  chain_rfl

end Cert.KernelIdeal.Own
-- ==== Proof.KernelIdeal.Region.lean ====
module

public import proofs.«01_k».proof.Proof.KernelIdeal.Run
public import proofs.«01_k».proof.Proof.KernelIdeal.ProgEq
public import proofs.«01_k».proof.Proof.Common.Window
public import proofs.«01_k».proof.Proof.Gen.KernelIdeal.Regions
public import proofs.«01_k».proof.Proof.Gen.KernelIdeal.Points
public import Idealize.ShloMosaic.Lib.Pipeline.RegionTalk

/-! # The kernel's call as a segment of the program

The body's run is put into the shape the pipeline asks of a call: the staged operands are the whole
arrays, the scratch buffers come with the call, the copy cells are opened when it is entered and are
back at zero when it is left. -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Own

variable {F : FTy → Type} [FloatOps F] [Named F]

local notation "𝕄" => MT nD τ sig Unit (Elt F) ℕ UU ℕ

/-! ## The operands -/

/-- What the program calls the body with. -/
def A₀ : Args where
  a0 := stage0_0 0
  h0 := hstage0_0 0
  a1 := stage0_1 0
  h1 := hstage0_1 0
  a2 := stage0_2 0
  h2 := hstage0_2 0
  a3 := stage0_3 0
  h3 := hstage0_3 0
  a4 := stage0_4 0
  h4 := hstage0_4 0
  a5 := stage0_5 0
  h5 := hstage0_5 0
  a6 := Memref.whole cc0_scratch0
  h6 := Memref.isWhole_whole _
  a7 := Memref.whole cc0_scratch1
  h7 := Memref.isWhole_whole _
  a8 := Memref.whole cc0_scratch2
  h8 := Memref.isWhole_whole _
  a9 := Memref.whole cc0_scratch3
  h9 := Memref.isWhole_whole _
  a10 := cc0_scratch4
  a11 := cc0_scratch5
  a12 := cc0_scratch6
  a13 := cc0_scratch7

/-- Its semaphores are the four families. -/
theorem std₀ : A₀.Std := ⟨by decide, by decide, by decide, by decide⟩

variable (m : (ℓ : Loc nD τ sig) → Buf (Elt F) ℓ)

/-- What device `c`'s body reads. -/
def I (c : Dev nD) : Ins F where
  x := V1 m c main_v5
  wq := V1 m c main_arg1
  k := V1 m c main_v18
  v := V1 m c main_v19
  wo := V1 m c main_arg4

/-- What the call leaves in its result. -/
def outs : Outs (F := F) := fun _ r c =>
  if h : r = main_v20 then h ▸ (outOf (I m) c : Buf (Elt F) ((c : Thread nD τ).loc main_v20)) else m ((c : Thread nD τ).loc r)

theorem outs_eq (n : ℕ) (c : Dev nD) : outs m n main_v20 c = outOf (I m) c := dif_pos rfl

/-! ## What enters and what leaves -/

/-- A family's cells listed position by position. -/
theorem by_position (Φ : Fin 4 → Fin 15 → sProp (MT nD τ sig Unit (Elt F) ℕ UU ℕ)) :
    bigSep (Finset.univ : Finset (Fin 4 × Fin 15)) (fun x => Φ x.1 x.2)
      = bigSepL slots fun j => iprop(Φ 0 j ∗ Φ 1 j ∗ Φ 2 j ∗ Φ 3 j) := by
  rw [bigSep_univ_prod, bigSep_univ_eq_bigSepL [(0 : Fin 4), 1, 2, 3] (by decide) (by decide)]
  simp only [bigSepL_sep_eq]
  rw [← bigSep_univ_eq_bigSepL slots (by decide) nodup_slots (Φ 0), ← bigSep_univ_eq_bigSepL slots (by decide) nodup_slots (Φ 1),
    ← bigSep_univ_eq_bigSepL slots (by decide) nodup_slots (Φ 2), ← bigSep_univ_eq_bigSepL slots (by decide) nodup_slots (Φ 3)]
  rfl

/-- The kernel's own semaphores. -/
def osem (x : Fin 4 × Fin 15) : SemLoc sig := .dma (ds x.1 x.2)

theorem osem_facts : Pipeline.OwnSemFacts spec0 osem := by decide

/-- Their counters, listed position by position. -/
theorem ownSems_eq (c : Dev nD) : (Pipeline.ownSems0 osem c : sProp 𝕄) = counters c :=
  by_position fun f j => (semVal (dCell f c j) 0 : sProp 𝕄)

/-- What the launch leaves with a device for the call. -/
def Tk (c : Dev nD) : sProp 𝕄 :=
  iprop((∃ K, recs A₀ (I m) K ∗ atPos ER (barCell c) 0 ∅ 0
      ∗ bigSep (Finset.univ : Finset (Fin 4 × Fin 15)) fun x => openTok ER (dCell x.1 c x.2)) ∗ toks c ∗ credits c)
/-- The same with the copy cells opened. -/
def Xk (c : Dev nD) : sProp 𝕄 :=
  iprop((∃ K, recs A₀ (I m) K ∗ atPos ER (barCell c) 0 ∅ 0) ∗ opened c ∗ toks c ∗ credits c ∗ levAts L lv)
/-- What the call leaves beside its buffers. -/
def Yk (c : Dev nD) : sProp 𝕄 := semVal (barCell c) 0

/-- The copy cells are opened from their counters. -/
theorem open_cells (c : Dev nD) : iprop(Tk m c ∗ Pipeline.ownSems0 osem c ∗ levAts L lv) ⊢ (|={Set.univ}=> Xk m c : sProp 𝕄) := by
  have hone (K) (x : Fin 4 × Fin 15) : iprop(recs A₀ (I m) K ∗ (openTok ER (dCell x.1 c x.2) ∗ semVal (dCell x.1 c x.2) 0))
      ⊢ (|={Set.univ}=> openAt c x.1 x.2 : sProp 𝕄) := by
    iintro ⟨#HR, Ho, Hs⟩
    ihave #HI := (recs_dma A₀ (I m) K x.1 c x.2) $$ HR
    unfold openAt
    imod (Rounds.cell_open ER (Rd A₀ (I m)) (g := dCell x.1 c x.2) (Set.mem_univ (K (dCell x.1 c x.2)))) $$ [Ho Hs] with ⟨Ha, #Hr⟩
    · isplitr; · iexact HI
      isplitl [Ho] <;> iassumption
    imodintro
    isplitl [Ha]; · iexact Ha
    iexact Hr
  have hall (K) : iprop(recs A₀ (I m) K ∗ bigSep (Finset.univ : Finset (Fin 4 × Fin 15)) fun x => iprop(openTok ER (dCell x.1 c x.2) ∗ semVal (dCell x.1 c x.2) 0))
      ⊢ (|={Set.univ}=> opened c : sProp 𝕄) := by
    unfold opened
    rw [← by_position (openAt c)]
    exact (bigSep_with_persistent fun x _ => hone K x).trans (bigSep_fupd _ _)
  unfold Tk Xk
  iintro ⟨⟨⟨%K, #HR, HaB, Ho⟩, Ht, Hc⟩, Hs, #HL⟩
  imod (hall K) $$ [Ho Hs] with Hop
  · isplitr; · iexact HR
    rw [bigSep_sep']
    isplitl [Ho]; · iexact Ho
    iapply (show (Pipeline.ownSems0 osem c : sProp 𝕄)
      ⊢ bigSep (Finset.univ : Finset (Fin 4 × Fin 15)) fun x => semVal (dCell x.1 c x.2) 0 from .rfl) $$ Hs
  imodintro
  isplitl [HaB]
  · iexists K
    isplitr; · iexact HR
    iexact HaB
  isplitl [Hop]; · iexact Hop
  isplitl [Ht]; · iexact Ht
  isplitl [Hc]; · iexact Hc
  iexact HL

/-- The scratch buffers come with the call. -/
theorem scratch_eq (c : Dev nD) : (Pipeline.scopedRest spec0 c : sProp 𝕄) = scratch A₀ c := by
  rw [scopedRest0_eq]
  unfold scratch A₀
  simp only [owns_whole]
  rfl

/-- The call's data: arrays as found, inputs left as fetched, the result, and what is held and owed before and
    after its one point. -/
def dats (_ : Fin 1) (c : Dev nD) : Dat τ (Elt F) Unit ℕ UU ℕ cfg0 c where
  A w := V1 m c (Proc.devRef .tc (Pipeline.arrRef spec0 w))
  after w _ := match w with
    | ⟨0, _⟩ => (I m c).x
    | ⟨1, _⟩ => (I m c).wq
    | ⟨2, _⟩ => (I m c).k
    | ⟨3, _⟩ => (I m c).v
    | ⟨4, _⟩ => (I m c).wo
    | ⟨5, _⟩ => outOf (I m) c
  Φ t := match t with
    | ⟨0, _⟩ => iprop(Xk m c ∗ scratch A₀ c ∗ ∃ r, prngReg c r)
    | ⟨_ + 1, _⟩ => iprop(Yk c ∗ counters c ∗ scratch A₀ c ∗ ∃ r, prngReg c r)
  q _ := fullShare
  owed t := match t with
    | ⟨0, _⟩ => O₀ c
    | ⟨_ + 1, _⟩ => 0

variable (c : Dev nD)

/-! What the body finds staged: each input array. -/

theorem before0 (d) : (dats m 0 c).before 0 t0_0 d = (I m c).x := by
  unfold Dat.before; rw [if_pos (fetch0_0 t0_0)]
  exact fetch_whole (Memref.whole main_v5) false false (stage0_0 0) (sem0_0 0) (Memref.isWhole_whole _) (hstage0_0 0) (Elt F) t0_0 (V1 m c (Proc.devRef .tc main_v5)) d
theorem before1 (d) : (dats m 0 c).before 1 t0_0 d = (I m c).wq := by
  unfold Dat.before; rw [if_pos (fetch0_1 t0_0)]
  exact fetch_whole (Memref.whole main_arg1) false false (stage0_1 0) (sem0_1 0) (Memref.isWhole_whole _) (hstage0_1 0) (Elt F) t0_0 (V1 m c (Proc.devRef .tc main_arg1)) d
theorem before2 (d) : (dats m 0 c).before 2 t0_0 d = (I m c).k := by
  unfold Dat.before; rw [if_pos (fetch0_2 t0_0)]
  exact fetch_whole (Memref.whole main_v18) false false (stage0_2 0) (sem0_2 0) (Memref.isWhole_whole _) (hstage0_2 0) (Elt F) t0_0 (V1 m c (Proc.devRef .tc main_v18)) d
theorem before3 (d) : (dats m 0 c).before 3 t0_0 d = (I m c).v := by
  unfold Dat.before; rw [if_pos (fetch0_3 t0_0)]
  exact fetch_whole (Memref.whole main_v19) false false (stage0_3 0) (sem0_3 0) (Memref.isWhole_whole _) (hstage0_3 0) (Elt F) t0_0 (V1 m c (Proc.devRef .tc main_v19)) d
theorem before4 (d) : (dats m 0 c).before 4 t0_0 d = (I m c).wo := by
  unfold Dat.before; rw [if_pos (fetch0_4 t0_0)]
  exact fetch_whole (Memref.whole main_arg4) false false (stage0_4 0) (sem0_4 0) (Memref.isWhole_whole _) (hstage0_4 0) (Elt F) t0_0 (V1 m c (Proc.devRef .tc main_arg4)) d

/-- The result array at the end: what the body left. -/
theorem out_after : (dats m 0 c).arrAt 5 cfg0.N = outOf (I m) c := by
  rw [show cfg0.N = (t0_0 : Fin cfg0.N).val + 1 from N_0, (dats m 0 c).arrAt_succ 5 t0_0, if_pos (flush0_5 t0_0)]
  exact write_whole (Memref.whole main_v20) true false (stage0_5 0) (sem0_5 0) (Memref.isWhole_whole _) (hstage0_5 0) (Elt F) t0_0 _ (outOf (I m) c)

/-! ## The body's obligation -/

/-- The operands owned one by one are what the pipeline hands over. -/
theorem ops_eq (i : Ins F) : (ops A₀ c i : sProp 𝕄)
    = iprop(owns (c : Thread nD τ) (st0_0 t0_0) fullShare i.x ∗ owns (c : Thread nD τ) (st0_1 t0_0) fullShare i.wq
      ∗ owns (c : Thread nD τ) (st0_2 t0_0) fullShare i.k ∗ owns (c : Thread nD τ) (st0_3 t0_0) fullShare i.v
      ∗ owns (c : Thread nD τ) (st0_4 t0_0) fullShare i.wo) := rfl

/-- The call's program is the loops. -/
theorem row_eq : defs₀ (F := F) .tc cfg0.body (cfg0.bodyArgs t0_0 (cfg0.slots t0_0)) = body A₀ := by
  unfold defs₀; rw [Defs.onTc_tc]
  exact body_eq A₀

theorem owes_open (O : CellTallies nD τ sig Unit) (t) (h : (dats m 0 c).owed t = O) :
    ((dats m 0 c).owesAt () t : sProp 𝕄) ⊢ iprop(∃ W, owes (c : Thread nD τ) O W) := by
  unfold Dat.owesAt Pipeline.owesWithin; rw [h]
  iintro ⟨%W, -, HO⟩; iexists W; iexact HO
theorem owes_close (O : CellTallies nD τ sig Unit) (t) (h : (dats m 0 c).owed t = O) :
    (iprop(∃ W, owes (c : Thread nD τ) O W) : sProp 𝕄) ⊢ (dats m 0 c).owesAt () t := by
  unfold Dat.owesAt Pipeline.owesWithin Dat.bound; rw [h]
  iintro ⟨%W, HO⟩; iexists W
  isplitr; · ipureintro; exact fun _ _ => Or.inl trivial
  iexact HO

/-- The body does what the pipeline asks. -/
theorem obligation : BodyObligation (dats m 0 c) defs₀ 𝒱₀ () Set.univ := fun t => by
  obtain rfl := fin_N0 t
  rw [bigSep_W0, bigSep_W0, row_eq]
  unfold body
  rw [wp_deviceId]
  rw [show (dats m 0 c).Φ t0_0.castSucc = iprop(Xk m c ∗ scratch A₀ c ∗ ∃ r, prngReg c r) from rfl,
    show (dats m 0 c).Φ t0_0.succ = iprop(Yk c ∗ counters c ∗ scratch A₀ c ∗ ∃ r, prngReg c r) from rfl]
  simp only [before0, before1, before2, before3, before4]
  unfold Xk Yk
  iintro ⟨⟨⟨⟨%K, #HR, HaB⟩, Hop, Ht, Hc, #HL⟩, Hs, Hp⟩, HO, ⟨%d0, H0⟩, ⟨%d1, H1⟩, ⟨%d2, H2⟩, ⟨%d3, H3⟩, ⟨%d4, H4⟩, ⟨%d5, H5⟩⟩
  ihave HO := (owes_open m c (O₀ c) _ rfl) $$ HO
  icases HO with ⟨%W, HO⟩
  iapply (body_run A₀ (I m) K c std₀ W) $$ [HaB Hop Ht Hc H0 H1 H2 H3 H4 H5 Hs HO]
  · isplitr; · iexact HR
    isplitr; · iexact HL
    isplitl [HaB]; · iexact HaB
    isplitl [Hop]; · iexact Hop
    isplitl [Ht]; · iexact Ht
    isplitl [Hc]; · iexact Hc
    isplitl [H0 H1 H2 H3 H4]
    · rw [ops_eq]
      isplitl [H0]; · iexact H0
      isplitl [H1]; · iexact H1
      isplitl [H2]; · iexact H2
      isplitl [H3]; · iexact H3
      iexact H4
    isplitl [H5]; · iexists _; iexact H5
    isplitl [Hs]; · iexact Hs
    iexact HO
  rw [ops_eq]
  iintro ⟨⟨Hb, Hk⟩, ⟨H0, H1, H2, H3, H4⟩, H5, Hs, HO⟩
  isplitl [Hb Hk Hs Hp]
  · isplitl [Hb]; · iexact Hb
    isplitl [Hk]; · iexact Hk
    isplitl [Hs]; · iexact Hs
    iexact Hp
  isplitl [HO]; · iapply (owes_close m c 0 _ rfl) $$ HO
  isplitl [H0]; · iexact H0
  isplitl [H1]; · iexact H1
  isplitl [H2]; · iexact H2
  isplitl [H3]; · iexact H3
  isplitl [H4]; · iexact H4
  iexact H5

/-! ## The segment -/

/-- What is owed at launch is owed above the staging's level. -/
theorem owed_above (t) (g : GSem nD τ sig) (u : Unit) (h : 0 < (dats m 0 c).owed t g u) : u ∈ L g ∧ 0 < lv g u := by
  rcases t with ⟨t, ht⟩
  match t, ht, h with
  | 0, _, h =>
    have h : 0 < owedB c slots g u := h
    have h1 : owedB c slots g u = owed1 c slots g u + owedL (fun j => barCell (nx c j)) 1 slots g u := rfl
    rw [h1] at h
    rcases Nat.add_pos_iff_pos_or_pos.mp h with h | h
    · rcases owed1_pos c slots g u h with ⟨j, rfl⟩ | ⟨j, rfl⟩
      · exact ⟨by rw [L_tc]; exact Finset.mem_singleton_self _, by rw [lv3]; decide⟩
      · exact ⟨by rw [L_tc]; exact Finset.mem_singleton_self _, by rw [lv1]; decide⟩
    · obtain ⟨j, rfl⟩ := owedL_pos _ _ _ _ _ h
      exact ⟨by rw [L_tc]; exact Finset.mem_singleton_self _, by rw [lv_bar]; decide⟩
  | t + 1, _, h => exact absurd h (Nat.lt_irrefl 0)

/-- The staging's own waits come first. -/
theorem staging_low : ∀ (w : Fin 6) (s : Fin (cfg0.win w).nbuf), fam ((cfg0.win w).sem s) ≠ 1 ∧ fam ((cfg0.win w).sem s) ≠ 3 := by decide

theorem cut : Pipeline.LevelCutOwed (pcfgs (F := F)) adm (dats m) () L lv 0 fun _ => 0 where
  hι c w s := by rw [L_tc]; exact Finset.mem_singleton_self _
  hιb c w s := by
    show (if fam ((cfg0.win w).sem s) = 1 then 2 else if fam ((cfg0.win w).sem s) = 3 then 3 else 0) ≤ 0
    rw [if_neg (staging_low w s).1, if_neg (staging_low w s).2]
  hD c t g u h := owed_above m c t g u h

/-- The arrays the call stages, and the rest of the program's buffers. -/
abbrev rest : Finset (DevRef τ sig) := Pipeline.ucRefs τ sig \ Pipeline.arrRefs (τ := τ) spec0

/-- The result is one of the staged arrays. -/
theorem v20_mem : (Proc.devRef .tc main_v20 : DevRef τ sig) ∈ Pipeline.arrRefs (τ := τ) spec0 := by decide
/-- Every staged array is one of the program's buffers. -/
theorem arr_sub : Pipeline.arrRefs (τ := τ) spec0 ⊆ Pipeline.ucRefs τ sig := by decide

/-- No other buffer changes. -/
theorem rest_same (b : DevRef τ sig) (hb : b ∈ rest \ ∅) : V2 m (outs m) c b = V1 m c b := by
  refine Function.update_of_ne (fun h => ?_) _ _
  subst h
  rw [Finset.sdiff_empty] at hb
  exact (Finset.mem_sdiff.mp hb).2 v20_mem

theorem held_none (V : Valuation τ sig (Elt F)) : (StableHlo.held (c.tc : Thread nD τ) ∅ V : sProp 𝕄) = BI.emp := by
  unfold StableHlo.held; exact BI.bigSep_empty

theorem enter : iprop(Pipeline.scopedRest spec0 c ∗ (∃ r, prngReg c r) ∗ StableHlo.held (c.tc : Thread nD τ) ∅ (V1 m c) ∗ Xk m c)
    ⊢ ((dats m 0 c).Φ 0 : sProp 𝕄) := by
  rw [show (dats m 0 c).Φ 0 = iprop(Xk m c ∗ scratch A₀ c ∗ ∃ r, prngReg c r) from rfl, scratch_eq]
  iintro ⟨Hs, Hp, -, HX⟩
  isplitl [HX]; · iexact HX
  isplitl [Hs]; · iexact Hs
  iexact Hp

theorem leave : (dats m 0 c).Φ (Fin.last cfg0.N)
    ⊢ (iprop(Pipeline.scopedRest spec0 c ∗ (∃ r, prngReg c r) ∗ StableHlo.held (c.tc : Thread nD τ) ∅ (V2 m (outs m) c)
      ∗ Pipeline.ownSems0 osem c ∗ Yk c) : sProp 𝕄) := by
  rw [show (dats m 0 c).Φ (Fin.last cfg0.N) = iprop(Yk c ∗ counters c ∗ scratch A₀ c ∗ ∃ r, prngReg c r) from rfl,
    scratch_eq, held_none, ownSems_eq]
  iintro ⟨HY, Hk, Hs, Hp⟩
  isplitl [Hs]; · iexact Hs
  isplitl [Hp]; · iexact Hp
  isplitr; · iempintro
  isplitl [Hk]; · iexact Hk
  iexact HY

/-- The result's contents after the call. -/
theorem v20_after : V2 m (outs m) c (Proc.devRef .tc main_v20) = outOf (I m) c :=
  (Function.update_self (Proc.devRef (τ := τ) .tc main_v20) (outs m 2 main_v20 c) (V1 m c)).trans (outs_eq m 2 c)

/-- The inputs are left as found and the result at what the body left. -/
theorem arr_after (w : Fin 6) : (dats m 0 c).arrAt w cfg0.N = V2 m (outs m) c (Proc.devRef .tc (Pipeline.arrRef spec0 w)) := by
  match w with
  | 0 => exact ((dats m 0 c).arrAt_in 0 rfl _).trans (V2_of m (outs m) c main_v5 (by decide)).symm
  | 1 => exact ((dats m 0 c).arrAt_in 1 rfl _).trans (V2_of m (outs m) c main_arg1 (by decide)).symm
  | 2 => exact ((dats m 0 c).arrAt_in 2 rfl _).trans (V2_of m (outs m) c main_v18 (by decide)).symm
  | 3 => exact ((dats m 0 c).arrAt_in 3 rfl _).trans (V2_of m (outs m) c main_v19 (by decide)).symm
  | 4 => exact ((dats m 0 c).arrAt_in 4 rfl _).trans (V2_of m (outs m) c main_arg4 (by decide)).symm
  | 5 => exact (out_after m c).trans (v20_after m c).symm

set_option backward.isDefEq.respectTransparency.types false in
/-- The call. -/
def region : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ rest (Finset.empty_subset _) (Pipeline.LaunchFacts.toP launch0) rfl (fun c => (obligation m c).loose)
    (fun _ => 0) O₀ (fun c => (zero_add _).symm) (fun _ => rfl) (fun _ => rfl)
    (fun c w => (dats m 0 c).share_full (fun _ => rfl) w)
    (V1 m) (V2 m (outs m)) (rest_same m)
    (Tk m) Yk (Xk m) Yk (open_cells m) (enter m) (leave m)
    (fun c => by iintro H; imodintro; iexact H)
    (fun _ => 0) (cut m) (fun _ => iprop(emp))
    (fun c w => rfl) (arr_after m)

/-- Before the call: every buffer, what the launch left for it, and all that is owed. -/
theorem region_pre : iprop(StableHlo.held (c : Thread nD τ) (Pipeline.ucRefs τ sig) (V1 m c)
      ∗ (Tk m c ∗ (∃ r, prngReg c r) ∗ ∃ W, owes (c : Thread nD τ) (O₀ c) W)) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + O₀ c) Wd)
  rw [StableHlo.held_sub_split (c : Thread nD τ) arr_sub (V1 m c), zero_add]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- After it: every buffer, the barrier's counter at zero, and nothing owed. -/
theorem region_post : (region m).post c ⊢ (iprop(StableHlo.held (c : Thread nD τ) (Pipeline.ucRefs τ sig) (V2 m (outs m) c)
      ∗ (semVal (barCell c) 0 ∗ ∃ W, owes (c : Thread nD τ) (0 : CellTallies nD τ sig Unit) W)) : sProp 𝕄) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ Yk c
    ∗ ∃ Wd, owes (c : Thread nD τ) (0 : CellTallies nD τ sig Unit) Wd) ⊢ _
  rw [StableHlo.held_sub_split (c : Thread nD τ) arr_sub (V2 m (outs m) c)]
  unfold Yk
  iintro ⟨Ha, -, ⟨Hr, -⟩, Hb, HO⟩
  isplitl [Ha Hr]; · isplitl [Ha] <;> iassumption
  isplitl [Hb]; · iexact Hb
  iexact HO

end Cert.KernelIdeal.Own
-- ==== Proof.KernelIdeal.Launch.lean ====
module

public import proofs.«01_k».proof.Proof.KernelIdeal.Region
public import Idealize.ShloMosaic.Lib.Quiescent

/-! # The launch, and the whole program's run

Every cell's invariant is made at launch — the barriers from their counters, the copy cells to be
opened later — and every device is dealt the tokens of the duties it pays and the credit it will
wait with. The tokens are listed by the cell they belong to, and paid by the device some places
before: moving along the ring is a bijection of (device, position). -/

@[expose] public section

set_option synthInstance.maxSize 4096

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Own

variable {F : FTy → Type} [FloatOps F] [Named F]

local notation "𝕄" => MT nD τ sig Unit (Elt F) ℕ UU ℕ

/-! ## The cells and the tokens -/

/-- No two copy cells of a device share a semaphore. -/
theorem ds_inj : Function.Injective fun x : Fin 4 × Fin 15 => ds x.1 x.2 := by decide

def barEmb : Dev nD ↪ GSem nD τ sig := ⟨fun c => barCell c, fun _ _ h => congrArg (fun g : GSem nD τ sig => g.1.1) h⟩
def copyEmb : Fin 4 × Dev nD × Fin 15 ↪ GSem nD τ sig :=
  ⟨fun x => dCell x.1 x.2.1 x.2.2, fun x y h => by
    have hd : x.2.1 = y.2.1 := congrArg (fun g : GSem nD τ sig => g.1.1) h
    have hs : (x.1, x.2.2) = (y.1, y.2.2) := ds_inj (SemLoc.dma.inj (congrArg Prod.snd h))
    exact Prod.ext (Prod.mk.inj hs).1 (Prod.ext hd (Prod.mk.inj hs).2)⟩

/-- The barrier cells. -/
abbrev barCells : Finset (GSem nD τ sig) := Finset.univ.map barEmb
/-- The copy cells. -/
abbrev copyCells : Finset (GSem nD τ sig) := Finset.univ.map copyEmb

theorem disjoint_cells : Disjoint barCells copyCells := by
  rw [Finset.disjoint_left]
  rintro g h₁ h₂
  obtain ⟨c, -, rfl⟩ := Finset.mem_map.mp h₁
  obtain ⟨x, -, h⟩ := Finset.mem_map.mp h₂
  have hs : SemLoc.dma (ds x.1 x.2.2) = SemLoc.reg barS := congrArg (fun g : GSem nD τ sig => g.2) h
  cases hs

/-- A token of position `j`: the barrier's duty `j`, or the one duty of a family's cell `j`. -/
abbrev tokSem : Fin 5 × Fin 15 → SemLoc sig × Fin 15
  | (0, j) => (.reg barS, j)
  | (1, j) => (.dma (ds 0 j), 0)
  | (2, j) => (.dma (ds 1 j), 0)
  | (3, j) => (.dma (ds 2 j), 0)
  | (4, j) => (.dma (ds 3 j), 0)
theorem tokSem_inj : Function.Injective tokSem := by decide
def tokEmb : (Fin 5 × Fin 15) × Dev nD ↪ GSem nD τ sig × ℕ × Fin 15 :=
  ⟨fun x => (((x.2 : Thread nD τ), (tokSem x.1).1), 0, (tokSem x.1).2), fun x y h =>
    Prod.ext (tokSem_inj (Prod.ext (congrArg (fun t : GSem nD τ sig × ℕ × Fin 15 => t.1.2) h)
      (congrArg (fun t : GSem nD τ sig × ℕ × Fin 15 => t.2.2) h))) (congrArg (fun t : GSem nD τ sig × ℕ × Fin 15 => t.1.1.1) h)⟩
/-- Every duty's token. -/
def allToks : Finset (GSem nD τ sig × ℕ × Fin 15) := Finset.univ.map tokEmb

/-- The ring, moved along with the position turned round: from a barrier's duty to its payer's. -/
def turn : Dev nD × Fin 15 ≃ Dev nD × Fin 15 where
  toFun x := (nx x.1 x.2, x.2.rev)
  invFun x := (nx x.1 x.2, x.2.rev)
  left_inv x := Prod.ext (nx_nx_rev x.1 x.2) (Fin.rev_rev x.2)
  right_inv x := Prod.ext (nx_nx_rev x.1 x.2) (Fin.rev_rev x.2)
/-- The ring, moved along: from a receive cell to its payer. -/
def along : Dev nD × Fin 15 ≃ Dev nD × Fin 15 where
  toFun x := (nx x.1 x.2, x.2)
  invFun x := (pv x.1 x.2, x.2)
  left_inv x := Prod.ext (pv_nx x.1 x.2) rfl
  right_inv x := Prod.ext (nx_pv x.1 x.2) rfl

/-- Pairs of device and position, listed device by device. -/
theorem by_device (Φ : Dev nD → Fin 15 → sProp (MT nD τ sig Unit (Elt F) ℕ UU ℕ)) :
    bigSep (Finset.univ : Finset (Dev nD × Fin 15)) (fun x => Φ x.1 x.2) = bigSep Finset.univ fun c => bigSepL slots (Φ c) := by
  rw [bigSep_univ_prod]
  exact bigSep_congr fun c _ => bigSep_univ_eq_bigSepL slots (by decide) nodup_slots (Φ c)

/-- Every token is dealt to the device that pays its duty. -/
theorem toks_dealt : bigSep allToks (fun x => (dutyTok ER x.1 x.2.1 x.2.2 : sProp 𝕄)) = bigSep Finset.univ fun c : Dev nD => toks c := by
  have h5 (Φ : Fin 5 → sProp (MT nD τ sig Unit (Elt F) ℕ UU ℕ)) : bigSep Finset.univ Φ = iprop(Φ 0 ∗ Φ 1 ∗ Φ 2 ∗ Φ 3 ∗ Φ 4) :=
    bigSep_univ_eq_bigSepL [(0 : Fin 5), 1, 2, 3, 4] (by decide) (by decide) Φ
  have hswap (Φ : Dev nD → Fin 15 → sProp (MT nD τ sig Unit (Elt F) ℕ UU ℕ)) :
      bigSep (Finset.univ : Finset (Fin 15)) (fun j => bigSep (Finset.univ : Finset (Dev nD)) fun c => Φ c j)
        = bigSep (Finset.univ : Finset (Dev nD × Fin 15)) fun x => Φ x.1 x.2 := by
    rw [← bigSep_univ_prod (fun x : Fin 15 × Dev nD => Φ x.2 x.1)]
    exact (bigSep_univ_equiv (Equiv.prodComm (Fin 15) (Dev nD)) fun x : Dev nD × Fin 15 => Φ x.1 x.2).symm
  unfold toks
  rw [← by_device fun c j => iprop(dutyTok ER (barCell (nx c j)) 0 j.rev ∗ dutyTok ER (dCell 0 c j) 0 0
    ∗ dutyTok ER (dCell 1 (nx c j) j) 0 0 ∗ dutyTok ER (dCell 2 c j) 0 0 ∗ dutyTok ER (dCell 3 (nx c j) j) 0 0)]
  simp only [bigSep_sep']
  unfold allToks
  rw [bigSep_map, bigSep_univ_prod, bigSep_univ_prod, h5]
  show iprop((bigSep Finset.univ fun j : Fin 15 => bigSep Finset.univ fun c : Dev nD => dutyTok ER (barCell c) 0 j)
    ∗ (bigSep Finset.univ fun j : Fin 15 => bigSep Finset.univ fun c : Dev nD => dutyTok ER (dCell 0 c j) 0 0)
    ∗ (bigSep Finset.univ fun j : Fin 15 => bigSep Finset.univ fun c : Dev nD => dutyTok ER (dCell 1 c j) 0 0)
    ∗ (bigSep Finset.univ fun j : Fin 15 => bigSep Finset.univ fun c : Dev nD => dutyTok ER (dCell 2 c j) 0 0)
    ∗ (bigSep Finset.univ fun j : Fin 15 => bigSep Finset.univ fun c : Dev nD => dutyTok ER (dCell 3 c j) 0 0)) = _
  rw [hswap fun c j => dutyTok ER (barCell c) 0 j, hswap fun c j => dutyTok ER (dCell 0 c j) 0 0, hswap fun c j => dutyTok ER (dCell 1 c j) 0 0,
    hswap fun c j => dutyTok ER (dCell 2 c j) 0 0, hswap fun c j => dutyTok ER (dCell 3 c j) 0 0]
  rw [bigSep_univ_equiv turn fun x : Dev nD × Fin 15 => dutyTok ER (barCell x.1) 0 x.2,
    bigSep_univ_equiv along fun x : Dev nD × Fin 15 => dutyTok ER (dCell 1 x.1 x.2) 0 0,
    bigSep_univ_equiv along fun x : Dev nD × Fin 15 => dutyTok ER (dCell 3 x.1 x.2) 0 0]
  rfl

/-! ## The credit -/

/-- What a list of equal dues comes to at a cell. -/
theorem owedL_at (g : Fin 15 → GSem nD τ sig) (n : ℕ) (x : GSem nD τ sig) : ∀ l : List (Fin 15),
    owedL g n l x () = (l.map fun j => if x = g j then 1 else 0).sum * n
  | [] => (Nat.zero_mul n).symm
  | j :: l => by
    have h1 : owedL g n (j :: l) x () = owedL g n l x () + tallyAt (g j) () n x () := rfl
    rw [h1, owedL_at g n x l, tallyAt_apply, List.map_cons, List.sum_cons, add_mul, add_comm]
    congr 1
    by_cases h : x = g j
    · rw [if_pos ⟨h, rfl⟩, if_pos h, one_mul]
    · rw [if_neg (fun h' => h h'.1), if_neg h, zero_mul]

/-- A cell that no due of the list names. -/
theorem owedL_none (g : Fin 15 → GSem nD τ sig) (n : ℕ) (x : GSem nD τ sig) (l : List (Fin 15)) (h : ∀ j, x ≠ g j) :
    owedL g n l x () = 0 :=
  Nat.eq_zero_of_not_pos fun hp => by obtain ⟨j, hj⟩ := owedL_pos g n l x () hp; exact h j hj

theorem owed_at (d : Dev nD) (x : GSem nD τ sig) : O₀ d x () = owedL (fun j => dCell 3 (nx d j) j) N slots x ()
    + owedL (fun j => dCell 1 (nx d j) j) N slots x () + owedL (fun j => barCell (nx d j)) 1 slots x () := rfl

/-- How many of a device's units go to one barrier, summed over devices: fifteen. -/
theorem count_bar : ∀ c : Dev nD, ∑ d : Dev nD, (slots.map fun j => if c = nx d j then 1 else 0).sum = 15 := by decide
/-- How many copies arrive at one position of a device: one. -/
theorem count_copy : ∀ (c : Dev nD) (i : Fin 15), ∑ d : Dev nD, (slots.map fun j => if (c = nx d j ∧ i = j) then 1 else 0).sum = 1 := by
  decide +kernel

theorem dCell_eq (f : Fin 4) (c d : Dev nD) (i j : Fin 15) : (dCell f c i = dCell f d j) ↔ (c = d ∧ i = j) := by
  constructor
  · intro h
    exact ⟨congrArg (fun g : GSem nD τ sig => g.1.1) h,
      congrArg Prod.snd (ds_inj (a₁ := (f, i)) (a₂ := (f, j)) (SemLoc.dma.inj (congrArg Prod.snd h)))⟩
  · rintro ⟨rfl, rfl⟩; rfl
theorem dCell_ne (f f' : Fin 4) (hf : f ≠ f') (c d : Dev nD) (i j : Fin 15) : dCell f c i ≠ dCell f' d j := fun h =>
  hf (congrArg Prod.fst (ds_inj (a₁ := (f, i)) (a₂ := (f', j)) (SemLoc.dma.inj (congrArg Prod.snd h))))
theorem bar_ne (f : Fin 4) (c d : Dev nD) (j : Fin 15) : barCell c ≠ dCell f d j := fun h => by
  have hs : SemLoc.reg barS = SemLoc.dma (ds f j) := congrArg (fun g : GSem nD τ sig => g.2) h
  cases hs
theorem barCell_eq (c d : Dev nD) : barCell c = barCell d ↔ c = d :=
  ⟨fun h => congrArg (fun g : GSem nD τ sig => g.1.1) h, fun h => h ▸ rfl⟩

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  rw [owed_at, owedL_none _ _ _ _ fun j => bar_ne 3 _ _ _, owedL_none _ _ _ _ fun j => bar_ne 1 _ _ _, owedL_at]
  simp only [barCell_eq, mul_one, zero_add]

theorem launch1 (c : Dev nD) (i : Fin 15) :
    tallyOn (dCell 1 c i) (launchCredit (Pipeline.owing O₀) 0 (dCell 1 c i)) = (tallyAt (dCell 1 c i) () N : CellTallies nD τ sig Unit) := by
  unfold tallyAt; refine congrArg _ (Finsupp.ext fun u => ?_); cases u
  rw [Pipeline.launchCredit_owing, Finsupp.single_eq_same]
  refine Eq.trans ?_ ((congrArg (· * N) (count_copy c i)).trans (one_mul N))
  rw [Finset.sum_mul]
  refine Finset.sum_congr rfl fun d _ => ?_
  rw [owed_at, owedL_none _ _ _ _ fun j => dCell_ne 1 3 (by decide) _ _ _ _, owedL_none (fun j => barCell (nx d j)) _ _ _ fun j => (bar_ne 1 _ _ _).symm,
    owedL_at]
  simp only [dCell_eq, zero_add, add_zero]

theorem launch3 (c : Dev nD) (i : Fin 15) :
    tallyOn (dCell 3 c i) (launchCredit (Pipeline.owing O₀) 0 (dCell 3 c i)) = (tallyAt (dCell 3 c i) () N : CellTallies nD τ sig Unit) := by
  unfold tallyAt; refine congrArg _ (Finsupp.ext fun u => ?_); cases u
  rw [Pipeline.launchCredit_owing, Finsupp.single_eq_same]
  refine Eq.trans ?_ ((congrArg (· * N) (count_copy c i)).trans (one_mul N))
  rw [Finset.sum_mul]
  refine Finset.sum_congr rfl fun d _ => ?_
  rw [owed_at, owedL_none (fun j => dCell 1 (nx d j) j) _ _ _ fun j => dCell_ne 3 1 (by decide) _ _ _ _,
    owedL_none (fun j => barCell (nx d j)) _ _ _ fun j => (bar_ne 3 _ _ _).symm, owedL_at]
  simp only [dCell_eq, add_zero]

/-- The semaphores of the two rounds' arrivals. -/
abbrev arrive : Fin 15 × Fin 2 → SemLoc sig
  | (j, 0) => .dma (ds 1 j)
  | (j, 1) => .dma (ds 3 j)
theorem arrive_inj : Function.Injective arrive := by decide
theorem arrive_ne : ∀ x, arrive x ≠ .reg barS := by decide

/-- A device's credit at launch is what it will wait with. -/
theorem credit_dealt (c : Dev nD) : (Pipeline.launchCred O₀ c : sProp 𝕄) ⊢ credits c := by
  unfold Pipeline.launchCred credits
  rw [bigSep_univ_at _ (SemLoc.reg barS), launch_bar]
  refine sep_mono_right ?_
  refine BIBase.Entails.trans (bigSep_subset (t := Finset.univ.map ⟨arrive, arrive_inj⟩) fun s hs => ?_) (Entails.of_eq ?_)
  · obtain ⟨x, -, rfl⟩ := Finset.mem_map.mp hs
    exact Finset.mem_erase.mpr ⟨arrive_ne x, Finset.mem_univ _⟩
  · rw [bigSep_map, bigSep_univ_prod, bigSep_univ_eq_bigSepL slots (by decide) nodup_slots]
    refine congrArg (bigSepL slots) (funext fun j => ?_)
    rw [BI.bigSep_fin_two, ← launch1, ← launch3]
    rfl

/-! ## The start -/

/-- The launch element: the staging library's part, and the protocol's cells and tokens. -/
def u₀ : UU :=
  (initOf (Pipeline.cells (Pipeline.pin (pcfgs (F := F)) adm) cellOf_inj) (Pipeline.launchToks (Pipeline.pin (pcfgs (F := F)) adm) cellOf_inj),
    launchOf barCells copyCells allToks)

/-- The protocol's part of the launch element, kept with device 0 until the cells are made. -/
def G (c : Dev nD) : sProp 𝕄 := if c = 0 then BI.own (ER (launchOf barCells copyCells allToks)) else iprop(emp)

theorem G_eq : bigSep Finset.univ (G (F := F)) = BI.own (ER (launchOf barCells copyCells allToks)) := by
  have hrest : bigSep (Finset.univ.erase (0 : Dev nD)) (G (F := F)) = bigSep (Finset.univ.erase (0 : Dev nD)) fun _ => (BI.emp : sProp 𝕄) :=
    bigSep_congr fun c hc => if_neg (Finset.ne_of_mem_erase hc)
  rw [bigSep_univ_at _ (0 : Dev nD), hrest, BI.bigSep_emp_const, G, if_pos rfl]
  exact BI.equiv_iff.mp sep_emp

theorem unscoped_bar : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

variable (m : (ℓ : Loc nD τ sig) → Buf (Elt F) ℓ) (ρ : Dev nD → PrngReg)

/-- What rides beside the buffers: before the call, and after it. -/
def E : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

/-- What a device keeps for itself at launch. -/
def mine (c : Dev nD) : sProp 𝕄 :=
  iprop((credits c ∗ owes (c : Thread nD τ) (O₀ c) ∅ ∗ prngReg c (ρ c)) ∗ atPos ER (barCell c) 0 ∅ 0
    ∗ (bigSep (Finset.univ : Finset (Fin 4 × Fin 15)) fun x => openTok ER (dCell x.1 c x.2)) ∗ toks c)

theorem E0_intro (K : GSem nD τ sig → ℕ) (c : Dev nD) : iprop(recs A₀ (I m) K ∗ mine ρ c) ⊢ E m 0 c := by
  unfold mine E Tk
  iintro ⟨#HR, ⟨Hc, HO, Hp⟩, Hat, Ho, Ht⟩
  isplitl [Hc Hat Ho Ht]
  · isplitl [Hat Ho]
    · iexists K
      isplitr; · iexact HR
      isplitl [Hat] <;> iassumption
    isplitl [Ht] <;> iassumption
  isplitl [Hp]
  · iexists (ρ c); iexact Hp
  iexists ∅; iexact HO

/-- The invariants as the records list them. -/
theorem recs_intro (K : GSem nD τ sig → ℕ) :
    iprop((bigSep (barCells ∪ copyCells) fun g => cellInv ER (Rd A₀ (I m)) (K g) g) ∗ bigSep barCells fun g => reached ER g 0)
      ⊢ (recs A₀ (I m) K : sProp 𝕄) := by
  unfold recs
  rw [show (bigSep (barCells ∪ copyCells) fun g => (cellInv ER (Rd A₀ (I m)) (K g) g : sProp 𝕄))
    = iprop((bigSep barCells fun g => cellInv ER (Rd A₀ (I m)) (K g) g) ∗ bigSep copyCells fun g => cellInv ER (Rd A₀ (I m)) (K g) g)
    from bigSep_union disjoint_cells, bigSep_map, bigSep_map, bigSep_map, bigSep_sep']
  iintro ⟨⟨HB, HC⟩, HR⟩
  isplitr [HC]
  · isplitl [HB]
    · iexact HB
    iexact HR
  iexact HC

/-- The rights to open, device by device. -/
theorem open_dealt : bigSep copyCells (fun g => (openTok ER g : sProp 𝕄))
    = bigSep Finset.univ fun c : Dev nD => bigSep (Finset.univ : Finset (Fin 4 × Fin 15)) fun x => (openTok ER (dCell x.1 c x.2) : sProp 𝕄) := by
  rw [bigSep_map, ← bigSep_univ_prod fun y : Dev nD × (Fin 4 × Fin 15) => openTok ER (dCell y.2.1 y.1 y.2.2)]
  exact bigSep_univ_equiv (⟨fun y => (y.2.1, y.1, y.2.2), fun x => (x.2.1, x.1, x.2.2), fun _ => rfl, fun _ => rfl⟩ :
    Dev nD × (Fin 4 × Fin 15) ≃ Fin 4 × Dev nD × Fin 15) fun x => openTok ER (dCell x.1 x.2.1 x.2.2)

/-- What every device keeps, sorted by kind. -/
theorem mine_all : (bigSep Finset.univ fun c : Dev nD => (mine ρ c : sProp 𝕄))
    = iprop((bigSep Finset.univ fun c : Dev nD => iprop(credits c ∗ owes (c : Thread nD τ) (O₀ c) ∅ ∗ prngReg c (ρ c)))
      ∗ (bigSep barCells fun g => atPos ER g 0 ∅ 0) ∗ (bigSep copyCells fun g => openTok ER g)
      ∗ bigSep allToks fun x => dutyTok ER x.1 x.2.1 x.2.2) := by
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  rw [hat, open_dealt, toks_dealt, ← bigSep_sep', ← bigSep_sep', ← bigSep_sep']
  rfl

/-- The protocol's start on every device at once. -/
theorem start : iprop((bigSep Finset.univ fun c : Dev nD => iprop(unscopedSems0 c ∗ owes (c : Thread nD τ) (O₀ c) ∅ ∗ Pipeline.launchCred O₀ c
        ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((credits c ∗ owes (c : Thread nD τ) (O₀ c) ∅ ∗ prngReg c (ρ c)) ∗ (semVal (barCell c) 0 ∗ G c)) : sProp 𝕄) := by
    rw [unscopedSems0_eq]
    iintro ⟨Hs, HO, Hc, Hp, HG⟩
    isplitr [Hs HG]
    · isplitl [Hc]; · iapply (credit_dealt c) $$ Hc
      isplitl [HO] <;> iassumption
    isplitl [Hs] <;> iassumption
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  iintro ⟨H, -⟩
  ihave H' := (show (bigSep Finset.univ fun c : Dev nD => iprop(unscopedSems0 c ∗ owes (c : Thread nD τ) (O₀ c) ∅ ∗ Pipeline.launchCred O₀ c
        ∗ prngReg c (ρ c) ∗ G c))
      ⊢ (iprop((bigSep Finset.univ fun c : Dev nD => iprop(credits c ∗ owes (c : Thread nD τ) (O₀ c) ∅ ∗ prngReg c (ρ c)))
        ∗ (bigSep barCells fun g => semVal g 0) ∗ BI.own (ER (launchOf barCells copyCells allToks))) : sProp 𝕄) from by
    rw [← hv, ← G_eq, ← bigSep_sep', ← bigSep_sep']
    exact bigSep_mono fun c _ => hcore c) $$ H
  icases H' with ⟨HB, Hv, Hu⟩
  imod (Rounds.fund_launch ER (Rd A₀ (I m)) disjoint_cells (fun g _ h => h) allToks) $$ [Hv Hu] with ⟨%κ, -, #Hinv, #Hr, Hat, Hopen, Htok⟩
  · isplitl [Hv]
    · iexact Hv
    · iexact Hu
  imodintro
  iapply (bigSep_with_persistent (R := recs A₀ (I m) κ) (Φ := fun c => mine ρ c) fun c _ => E0_intro m ρ κ c)
  isplitr
  · iapply (recs_intro m κ)
    isplitr; · iexact Hinv
    iexact Hr
  iapply (Entails.of_eq (mine_all (F := F) ρ).symm)
  isplitl [HB]; · iexact HB
  isplitl [Hat]; · iexact Hat
  isplitl [Hopen]; · iexact Hopen
  iexact Htok

/-! ## The run -/

/-- An unscoped buffer is among those held at the end. -/
theorem mem_uc (r : Ref sig .tc) (h : (Proc.devRef (τ := τ) .tc r).isScoped = false) : Proc.devRef .tc r ∈ Pipeline.ucRefs τ sig :=
  Finset.mem_filter.mpr ⟨StableHlo.devRef_mem_tcRefs r, by simp [h]⟩

set_option backward.isDefEq.respectTransparency.types false in
/-- From any memory with zero counters every weakly fair execution ends: each device's operands unchanged, its result what the
last host operation makes of the call's output, and every semaphore of the machine back at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v21) = V3 m (outs m) c main_v21) ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (region m))
    (fun c Q => by
      rewrite [main_chain c, Pipeline.Seg.run_eq_chain, show (segs m (outs m) 𝒱₀ L lv (E m) () (dats m) (region m) c).map Pipeline.Seg.prog
        = [StableHlo.seq (hostOps0 c), Prog.lift (.customCall (Pipeline.entry 0) ()), StableHlo.seq hostOps1] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      rw [G_eq]
      iintro Hu
      ihave H := (ownU_pair _ _) $$ Hu
      imodintro
      iexact H)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, region_pre m c, region_post m c, ?_⟩)
    (hinit := ?_)
    (QY := fun c s => (∀ b ∈ Pipeline.ucRefs τ sig, s.mem ((c : Thread nD τ).1, b) = V3 m (outs m) c b) ∧ s.sem (barCell c) = 0)
    (hfin := fun c s' => ?_)
    (hQ := fun s h hs => ⟨fun c => ?_, sem_eq_zero hs fun c sm hsm => ?_⟩)
  · show iprop(StableHlo.held (c : Thread nD τ) (Pipeline.ucRefs τ sig) (V3 m (outs m) c)
      ∗ (semVal (barCell c) 0 ∗ ∃ W, owes (c : Thread nD τ) (0 : CellTallies nD τ sig Unit) W)) ⊢ _
    iintro ⟨Hh, Hb, HO⟩
    isplitr [HO]
    · isplitl [Hh] <;> iassumption
    · iexact HO
  · iintro ⟨H, Hla⟩
    ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) from by
      rw [← bigSep_sep']
      exact bigSep_mono fun c _ => by rw [← Pipeline.unscopedBufs_held (Ix := Unit) (Name := ℕ) (U := UU) (Lvl := ℕ) c (V0 m c)]; exact BI.Entails.refl _) $$ H
    icases H' with ⟨Hh, Hr⟩
    imod (start m ρ) $$ [Hr Hla] with HE
    · isplitl [Hr] <;> iassumption
    imodintro
    iapply (Entails.of_eq (bigSep_sep' _ _ _).symm)
    isplitl [Hh] <;> iassumption
  · dsimp only
    unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    · iexact HSI
  · have hr (r : Ref sig .tc) (hu) := (h c).1 (Proc.devRef .tc r) (mem_uc r hu)
    exact ⟨(hr main_arg0 (by decide)).trans (V3_main_arg0 m (outs m) c), (hr main_arg1 (by decide)).trans (V3_main_arg1 m (outs m) c),
      (hr main_arg2 (by decide)).trans (V3_main_arg2 m (outs m) c), (hr main_arg3 (by decide)).trans (V3_main_arg3 m (outs m) c),
      (hr main_arg4 (by decide)).trans (V3_main_arg4 m (outs m) c), hr main_v21 (by decide)⟩
  · obtain rfl := unscoped_bar sm hsm
    exact (h c).2

end Cert.KernelIdeal.Own
-- ==== Proof.Claims.Frames.lean ====
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

/-! # The frames, and the named mask -/

@[expose] public section

noncomputable section

namespace Cert.Proof

open Idealize.ShloMosaic Idealize.SL.Sem

/-- The kernel runs, at bit values, leaves its operands as they were, and every semaphore at zero. -/
theorem frame_kernel : Cert.quiescent_Kernel := fun m ρ _ =>
  (θ_run _ _ _).mono (fun _ h => ⟨fun c => by obtain ⟨h0, h1, h2, h3, h4, -⟩ := h.1 c; exact ⟨h0, h1, h2, h3, h4⟩, h.2⟩)
    (Cert.Kernel.Own.run_main m ρ)

/-- The same over the extended reals. -/
theorem frame_ideal : Cert.quiescent_KernelIdeal := fun m ρ _ =>
  (θ_run _ _ _).mono (fun _ h => ⟨fun c => by obtain ⟨h0, h1, h2, h3, h4, -⟩ := h.1 c; exact ⟨h0, h1, h2, h3, h4⟩, h.2⟩)
    (Cert.KernelIdeal.Own.run_main m ρ)

/-- The reference is host operations alone, and has no semaphore. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run m ρ)

/-- The mask's name stands for the literal it replaces. -/
theorem mask_named : Cert.preserves_Kernel_KernelIdeal :=
  IdealRules.named_const.statement Cert.KernelIdeal.κ "mask" .f32 0xCE6E6B28#32 ⊥ rfl

end Cert.Proof

end
-- ==== Proof.Values.Softmax.lean ====
module

public import Idealize.ShloMosaic.Lib.Pointwise

/-! # Softmax over the extended reals, and its prefix

The weights of one query row are `exp (s t - M) / S`, `M` the row's maximum and `S` the sum of the
exponentials. Where every key after the first `W` is masked (its score is `⊥`) and the other scores
are finite, the masked keys weigh nothing: the weighted sum over all keys is the one over the prefix. -/

@[expose] public section

noncomputable section

namespace Cert.Own

open Idealize.ShloMosaic

/-- The maximum of a row of scores. -/
def rowMax {n : ℕ} (s : Fin n → EReal) : EReal := Finset.univ.fold max ⊥ s
/-- The exponential of a score less the row's maximum. -/
def rowExp {n : ℕ} (s : Fin n → EReal) (t : Fin n) : EReal := Ideal.exp (s t - rowMax s)
/-- The sum of a row's exponentials. -/
def rowSum {n : ℕ} (s : Fin n → EReal) : EReal := ∑ t, rowExp s t
/-- The weight of key `t` in a row of scores. -/
def weight {n : ℕ} (s : Fin n → EReal) (t : Fin n) : EReal := Ideal.div (rowExp s t) (rowSum s)

variable {N W : ℕ} (h : W ≤ N) (s : Fin N → EReal)

/-- A row's maximum is its least upper bound. -/
theorem rowMax_eq_sup {n : ℕ} (s : Fin n → EReal) : rowMax s = Finset.univ.sup s := rfl

/-- A sum whose terms vanish after the first `W` is the sum of the first `W`. -/
theorem sum_prefix (f : Fin N → EReal) (hf : ∀ t, W ≤ t.val → f t = 0) : ∑ t, f t = ∑ t : Fin W, f (t.castLE h) := by
  refine (Fintype.sum_of_injective (Fin.castLE h) (Fin.castLE_injective h) _ f (fun i hi => hf i ?_) fun _ => rfl).symm
  by_contra hlt
  exact hi ⟨⟨i.val, Nat.lt_of_not_le hlt⟩, rfl⟩

/-- Masked keys do not move the maximum. -/
theorem rowMax_prefix (hm : ∀ t, W ≤ t.val → s t = ⊥) : rowMax (fun t : Fin W => s (t.castLE h)) = rowMax s := by
  rw [rowMax_eq_sup, rowMax_eq_sup]
  refine le_antisymm (Finset.sup_le fun t _ => Finset.le_sup (f := s) (Finset.mem_univ _)) (Finset.sup_le fun t _ => ?_)
  by_cases ht : W ≤ t.val
  · rw [hm t ht]; exact bot_le
  · exact Finset.le_sup (f := fun t : Fin W => s (t.castLE h)) (Finset.mem_univ ⟨t.val, Nat.lt_of_not_le ht⟩)

variable {s} (hm : ∀ t, W ≤ t.val → s t = ⊥) (ht : ∀ t, s t ≠ ⊤) (t₀ : Fin N) (h₀ : s t₀ ≠ ⊥)

include ht h₀ in
/-- The maximum of finite and masked scores, not all masked, is real. -/
theorem rowMax_real : ∃ M : ℝ, rowMax s = M := by
  have hb : rowMax s ≠ ⊥ := fun e =>
    h₀ (le_bot_iff.1 (e ▸ rowMax_eq_sup s ▸ Finset.le_sup (f := s) (Finset.mem_univ t₀)))
  have htop : rowMax s ≠ ⊤ := by
    rw [rowMax_eq_sup]
    refine ne_of_lt ((Finset.sup_lt_iff bot_lt_top).2 fun t _ => lt_top_iff_ne_top.2 (ht t))
  exact ⟨(rowMax s).toReal, (EReal.coe_toReal htop hb).symm⟩

/-- An exponential is not negative. -/
theorem exp_nonneg (x : EReal) : 0 ≤ Ideal.exp x := by
  induction x with
  | bot => exact le_rfl
  | top => exact le_top
  | coe r => exact EReal.coe_nonneg.2 (Real.exp_pos r).le

include ht h₀ in
/-- The exponentials of such scores do not sum to zero. -/
theorem rowSum_ne_zero : rowSum s ≠ 0 := by
  obtain ⟨M, hM⟩ := rowMax_real ht t₀ h₀
  refine ne_of_gt (lt_of_lt_of_le ?_
    (Finset.single_le_sum (f := rowExp s) (fun t _ => exp_nonneg _) (Finset.mem_univ t₀)))
  have h1 : s t₀ = ((s t₀).toReal : EReal) := (EReal.coe_toReal (ht t₀) h₀).symm
  rw [rowExp, hM, h1, ← EReal.coe_sub, Ideal.exp_coe]
  exact EReal.coe_pos.2 (Real.exp_pos _)

include ht h₀ in
/-- A masked key's exponential is zero. -/
theorem rowExp_masked (t : Fin N) (hb : s t = ⊥) : rowExp s t = 0 := by
  obtain ⟨M, hM⟩ := rowMax_real ht t₀ h₀
  rw [rowExp, hM, hb, EReal.bot_sub]
  rfl

include hm ht h₀ in
/-- The sum of the exponentials is that of the prefix. -/
theorem rowSum_prefix : rowSum (fun t : Fin W => s (t.castLE h)) = rowSum s := by
  rw [rowSum, rowSum, sum_prefix h (rowExp s) fun t hW => rowExp_masked ht t₀ h₀ t (hm t hW)]
  refine Finset.sum_congr rfl fun t _ => ?_
  rw [rowExp, rowExp, rowMax_prefix h s hm]

include hm ht h₀ in
/-- The weighted sum over all keys is the one over the prefix. -/
theorem weighted_prefix (v : Fin N → EReal) :
    ∑ t, v t * weight s t = ∑ t : Fin W, weight (fun t : Fin W => s (t.castLE h)) t * v (t.castLE h) := by
  rw [sum_prefix h (fun t => v t * weight s t)]
  · refine Finset.sum_congr rfl fun t _ => ?_
    rw [mul_comm, weight, weight, rowSum_prefix h hm ht t₀ h₀, rowExp, rowExp, rowMax_prefix h s hm]
  · intro t hW
    show v t * weight s t = 0
    rw [weight, rowExp_masked ht t₀ h₀ t (hm t hW), Ideal.div, if_neg (rowSum_ne_zero ht t₀ h₀), zero_mul, mul_zero]

end Cert.Own
-- ==== Proof.Values.Attention.lean ====
module

public import proofs.«01_k».proof.Proof.Values.Softmax

/-! # The attention of one head, as a formula

One query row against the keys of one head: the scaled products, masked by chunks of 64 rows, and
the weighted sum of one column of the values. All arrays are functions of their coordinates. -/

@[expose] public section

noncomputable section

namespace Cert.Own

open Idealize.ShloMosaic

/-- The scores' scale, as the programs write it. -/
def scale : EReal := Ideal.ofBits .f32 0x3DB504F3#32

/-- The literal of both programs' masks and maxima. -/
theorem lit_bot : Ideal.ofBits .f32 0xFF800000#32 = ⊥ := by
  simp [Ideal.ofBits, Ideal.ieee]

/-- The score of query row `r` against key `t`. -/
def score (q : Fin 128 → EReal) (K : Fin 1024 → Fin 128 → EReal) (r t : Fin 1024) : EReal :=
  if t.val / 64 ≤ r.val / 64 then (∑ e, q e * K t e) * scale else ⊥

/-- The attention of query row `r` over one column of the values. -/
def attend (q : Fin 128 → EReal) (K : Fin 1024 → Fin 128 → EReal) (v : Fin 1024 → EReal) (r : Fin 1024) : EReal :=
  ∑ t, v t * weight (score q K r) t

/-- An extended real that is a real. -/
def IsReal (x : EReal) : Prop := ∃ a : ℝ, x = a

/-- Neither infinite. -/
theorem isReal_of_ne {x : EReal} (ht : x ≠ ⊤) (hb : x ≠ ⊥) : IsReal x := ⟨x.toReal, (EReal.coe_toReal ht hb).symm⟩
theorem IsReal.ne_top {x : EReal} : IsReal x → x ≠ ⊤ := fun ⟨a, e⟩ => e ▸ EReal.coe_ne_top a
theorem IsReal.ne_bot {x : EReal} : IsReal x → x ≠ ⊥ := fun ⟨a, e⟩ => e ▸ EReal.coe_ne_bot a
/-- Products of reals. -/
theorem IsReal.mul {x y : EReal} : IsReal x → IsReal y → IsReal (x * y) := fun ⟨a, ha⟩ ⟨b, hb⟩ =>
  ⟨a * b, by rw [ha, hb, EReal.coe_mul]⟩
/-- Sums of reals. -/
theorem IsReal.sum {n : ℕ} {f : Fin n → EReal} (hf : ∀ i, IsReal (f i)) : IsReal (∑ i, f i) :=
  Finset.sum_induction f IsReal (fun _ _ ⟨a, ha⟩ ⟨b, hb⟩ => ⟨a + b, by rw [ha, hb, EReal.coe_add]⟩) ⟨0, rfl⟩ fun i _ => hf i

/-- The scale is a real. -/
theorem scale_real : IsReal scale := by
  refine isReal_of_ne ?_ ?_ <;> simp [scale, Ideal.ofBits, Ideal.ieee, -EReal.coe_mul]

variable {q : Fin 128 → EReal} {K : Fin 1024 → Fin 128 → EReal} (hq : ∀ e, IsReal (q e)) (hK : ∀ t e, IsReal (K t e))

include hq hK in
/-- No score is infinitely large. -/
theorem score_ne_top (r t : Fin 1024) : score q K r t ≠ ⊤ := by
  unfold score
  split_ifs
  · exact ((IsReal.sum fun e => (hq e).mul (hK t e)).mul scale_real).ne_top
  · exact bot_ne_top

include hq hK in
/-- The first key is not masked. -/
theorem score_zero_ne_bot (r : Fin 1024) : score q K r 0 ≠ ⊥ := by
  unfold score
  rw [if_pos (show (0 : Fin 1024).val / 64 ≤ r.val / 64 from Nat.zero_le _)]
  exact ((IsReal.sum fun e => (hq e).mul (hK 0 e)).mul scale_real).ne_bot

include hq hK in
/-- A row sees only the keys of its own and the earlier blocks of rows. -/
theorem attend_prefix (v : Fin 1024 → EReal) (r : Fin 1024) {W : ℕ} (h : W ≤ 1024) (hr : r.val < W) (hW : 64 ∣ W) :
    attend q K v r = ∑ t : Fin W, weight (fun t : Fin W => score q K r (t.castLE h)) t * v (t.castLE h) := by
  refine weighted_prefix h (fun t ht => ?_) (score_ne_top hq hK r) 0 (score_zero_ne_bot hq hK r) v
  unfold score
  rw [if_neg]
  obtain ⟨a, rfl⟩ := hW
  omega

end Cert.Own
-- ==== Proof.Values.Head.lean ====
module

public import proofs.«01_k».proof.Proof.Values.Attention
public import proofs.«01_k».proof.Proof.KernelIdeal.Outs
public import Idealize.ShloMosaic.Lib.Pointwise.IndexVar

/-! # The kernel's partial output at an index

Over the extended reals, element `(r, n)` of one device's partial output is the sum over the device's
1024 columns of the attention of that column's head at row `r`, times the projection's element. -/

@[expose] public section

set_option maxRecDepth 16384

noncomputable section

namespace Cert.KernelIdeal.Own

open Idealize.ShloMosaic Cert.KernelIdeal Cert.KernelIdeal.Gen Cert.Own

/-! ## Contractions of variable sizes -/

/-- A product of matrices at an index. -/
theorem plain_at (M K N : ℕ) (l : (⟨2, ![M, K]⟩ : Shape).Idx → EReal) (r : (⟨2, ![K, N]⟩ : Shape).Idx → EReal)
    (a : (⟨2, ![M, N]⟩ : Shape).Idx → EReal) (i : Fin M) (j : Fin N) :
    Ideal.matmul (DotDims.plain M K N) l r a (ix2 i j) = a (ix2 i j) + ∑ k : Fin K, l (ix2 i k) * r (ix2 k j) := by
  refine (Ideal.matmul_apply₁ (DotDims.plain M K N) rfl rfl ..).trans ?_
  congr 1
  refine Finset.sum_congr rfl fun k _ => ?_
  congr 2 <;> idx_ext

/-- A product with a transposed matrix at an index. -/
theorem transposed_at (M K N : ℕ) (l : (⟨2, ![M, K]⟩ : Shape).Idx → EReal) (r : (⟨2, ![N, K]⟩ : Shape).Idx → EReal)
    (a : (⟨2, ![M, N]⟩ : Shape).Idx → EReal) (i : Fin M) (j : Fin N) :
    Ideal.matmul (DotDims.transposedRhs M K N) l r a (ix2 i j) = a (ix2 i j) + ∑ k : Fin K, l (ix2 i k) * r (ix2 j k) := by
  refine (Ideal.matmul_apply₁ (DotDims.transposedRhs M K N) rfl rfl ..).trans ?_
  congr 1
  refine Finset.sum_congr rfl fun k _ => ?_
  congr 2 <;> idx_ext

/-! ## The mask -/

/-- The chunk number of a row of a block, as the kernel computes it. -/
theorem chunk_word : ∀ r : Fin 256,
    Scalar.select
        (IntOp.andi
          (IntOp.cmpi .ne
            (IntOp.subi (BitVec.setWidth 32 (IntOp.cmpi .sgt (BitVec.ofNat 32 r.val) 0#32))
              (BitVec.setWidth 32 (IntOp.cmpi .slt (BitVec.ofNat 32 r.val) 0#32)))
            (Scalar.subi (Scalar.extui (Scalar.cmpi .sgt 64#32 0#32)) (Scalar.extui (Scalar.cmpi .slt 64#32 0#32))))
          (IntOp.cmpi .ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32)
      = BitVec.ofNat 32 (r.val / 64) := by decide +kernel

/-- Chunk numbers compare as numbers. -/
theorem chunk_le : ∀ a b : Fin 16, IntOp.cmpi .sle (BitVec.ofNat 32 a.val) (BitVec.ofNat 32 b.val) = if a.val ≤ b.val then 1#1 else 0#1 := by
  decide +kernel

/-- The diagonal block's mask. -/
theorem tri_at (r t : Fin 256) : tri (ix2 r t) = if t.val / 64 ≤ r.val / 64 then 1#1 else 0#1 := by
  pointwise [tri, k0_pay4, k0_pay3, k0_pay5, k0_pay6, k0_pay7, k0_pay8]
  rw [chunk_word r, chunk_word t]
  exact chunk_le ⟨t.val / 64, by omega⟩ ⟨r.val / 64, by omega⟩

/-- A block's mask: the key's chunk is at most the query's. -/
theorem msk_at (b : Fin 4) (r : Fin 256) (t : Fin (keys b)) :
    msk b (ix2 r t) = if t.val / 64 ≤ (256 * b.val + r.val) / 64 then 1#1 else 0#1 := by
  fin_cases b
  all_goals
    dsimp [msk] at t ⊢
    pointwise [msk, tri_at]
  all_goals
    split_ifs <;> first | rfl | (exfalso; omega)

/-! ## One head -/

/-- Row `r` of block `b`. -/
def rowIx (b : Fin 4) (r : Fin 256) : Fin 1024 := ⟨256 * b.val + r.val, by omega⟩
/-- Column `e` of head `h`. -/
def colIx (h : Fin 8) (e : Fin 128) : Fin 1024 := ⟨128 * h.val + e.val, by omega⟩

/-- Keys and values without the head's axis. -/
theorem keyCast_at (b : Fin 4) (k : Vec Ideal (SK1 b) .f32) (t : Fin (keys b)) (e : Fin 128) :
    shapeCast (SK b) k (casts_SK b) (ix2 t e) = k (ix3 0 t e) := by
  fin_cases b <;> (dsimp at k t ⊢; pointwise)

/-- The query rows of one head and block. -/
theorem query_at (b : Fin 4) (h : Fin 8) (Q : FVec Ideal S1024x1024 .f32) (r : Fin 256) (e : Fin 128) :
    extractStridedSlice S256x128 ![row0 b, 128 * h.val] Q (slices_Q b h) (ix2 r e)
      = Q (ix2 (rowIx b r) (colIx h e)) := by
  pointwise
  rfl

variable (b : Fin 4) (h : Fin 8)

/-- The exponentials of a block's scores. -/
theorem expd_at (s : FVec Ideal (SW b) .f32) (r : Fin 256) (t : Fin (keys b)) :
    expd b s (ix2 r t) = rowExp (fun t : Fin (keys b) => s (ix2 r t)) t := by
  pointwise [expd, lit_bot]
  rfl

/-- The weights of a block. -/
theorem normed_at (s : FVec Ideal (SW b) .f32) (r : Fin 256) (t : Fin (keys b)) :
    normed b s (ix2 r t) = Ideal.div (s (ix2 r t)) (∑ t : Fin (keys b), s (ix2 r t)) := by
  pointwise [normed]

/-- The mask's value is `⊥`. -/
theorem maskV_eq : (maskV : Ideal .f32) = ⊥ := rfl

/-- The scores of a block. -/
theorem scores_at (Q : FVec Ideal S1024x1024 .f32) (k : Vec Ideal (SK1 b) .f32) (r : Fin 256) (t : Fin (keys b)) :
    scores b h Q k (ix2 r t)
      = if t.val / 64 ≤ (rowIx b r).val / 64 then
          (∑ e : Fin 128, Q (ix2 (rowIx b r) (colIx h e)) * k (ix3 0 t e)) * scale
        else ⊥ := by
  have hm : matmul (DotDims.transposedRhs 256 128 (keys b)) none
        (truncf .bf16 (extractStridedSlice S256x128 ![row0 b, 128 * h.val] Q (slices_Q b h)) bitsLt_bf16_f32)
        (truncf .bf16 (shapeCast (SK b) k (casts_SK b)) bitsLt_bf16_f32)
        (constant (SW b) .f32 0x00000000#32) (ix2 r t)
      = ∑ e : Fin 128, Q (ix2 (rowIx b r) (colIx h e)) * k (ix3 0 t e) := by
    refine (transposed_at 256 128 (keys b) _ _ _ r t).trans ?_
    rw [show (constant (SW b) .f32 0x00000000#32 : FVec Ideal (SW b) .f32) (ix2 r t) = (0 : EReal) from Ideal.ofBits_zero_f32, zero_add]
    refine Finset.sum_congr rfl fun e _ => ?_
    exact congrArg₂ (· * ·) (query_at b h Q r e) (keyCast_at b k t e)
  have hs : scores b h Q k (ix2 r t) = Scalar.select (msk b (ix2 r t)) ((∑ e : Fin 128, Q (ix2 (rowIx b r) (colIx h e)) * k (ix3 0 t e)) * scale) ⊥ := by
    rw [← hm]; rfl
  rw [hs, msk_at]
  show Scalar.select (if t.val / 64 ≤ (rowIx b r).val / 64 then 1#1 else 0#1) _ _ = _
  split_ifs <;> rfl

/-- The weights of a block are its rows' softmax. -/
theorem weights_at (s : FVec Ideal (SW b) .f32) (r : Fin 256) (t : Fin (keys b)) :
    normed b (expd b s) (ix2 r t) = weight (fun t : Fin (keys b) => s (ix2 r t)) t := by
  rw [normed_at, expd_at]
  have hs : (∑ u : Fin (keys b), expd b s (ix2 r u)) = rowSum (fun t : Fin (keys b) => s (ix2 r t)) :=
    Finset.sum_congr rfl fun u _ => expd_at b s r u
  rw [hs, weight]

/-- A block's weights times its values. -/
theorem mixed_at (w : FVec Ideal (SW b) .f32) (v : Vec Ideal (SK1 b) .f32) (r : Fin 256) (e : Fin 128) :
    matmul (DotDims.plain 256 (keys b) 128) none (truncf .bf16 w bitsLt_bf16_f32)
        (truncf .bf16 (shapeCast (SK b) v (casts_SK b)) bitsLt_bf16_f32) (constant S256x128 .f32 0x00000000#32) (ix2 r e)
      = ∑ t : Fin (keys b), w (ix2 r t) * v (ix3 0 t e) := by
  refine (plain_at 256 (keys b) 128 _ _ _ r e).trans ?_
  rw [show (constant S256x128 .f32 0x00000000#32 : FVec Ideal S256x128 .f32) (ix2 r e) = (0 : EReal) from Ideal.ofBits_zero_f32, zero_add]
  exact Finset.sum_congr rfl fun t _ => congrArg (w (ix2 r t) * ·) (keyCast_at b v t e)

/-- One head's attention on one block, over the keys that the block looks at. -/
theorem headOut_at (Q : FVec Ideal S1024x1024 .f32) (k v : Vec Ideal (SK1 b) .f32) (r : Fin 256) (e : Fin 128) :
    headOut b h Q k v (ix2 r e) = ∑ t : Fin (keys b), weight (fun t : Fin (keys b) => scores b h Q k (ix2 r t)) t * v (ix3 0 t e) := by
  unfold headOut
  rw [mixed_at]
  exact Finset.sum_congr rfl fun t _ => by rw [weights_at]

/-! ## The partial output -/

variable (i : Ins Ideal)

/-- The query row that head `h` reads. -/
def queryOf (R : Fin 1024) (h : Fin 8) (e : Fin 128) : EReal := ∑ j : Fin 1024, i.x (ix2 R j) * i.wq (ix2 j (colIx h e))

/-- The query matrix. -/
theorem pay1_at (R c : Fin 1024) : k0_pay1 i.x i.wq (ix2 R c) = ∑ j : Fin 1024, i.x (ix2 R j) * i.wq (ix2 j c) := by
  pointwise [k0_pay1]

/-- The output projection. -/
theorem pay2_at (k n : Fin 1024) : k0_pay2 i.wo (ix2 k n) = i.wo (ix2 k n) := by
  pointwise [k0_pay2]

/-- Every operand of the scores is a real. -/
def Ins.Real (i : Ins Ideal) : Prop :=
  (∀ a b, IsReal (i.x (ix2 a b))) ∧ (∀ a b, IsReal (i.wq (ix2 a b))) ∧ ∀ a b c, IsReal (i.k (ix3 a b c))

/-- Keys lie among the first. -/
theorem keys_le : ∀ b : Fin 4, keys b ≤ 1024 := by decide

/-- A key or value that a block looks at. -/
theorem headOf_at (X : Vec Ideal S8x1024x128 .f32) (t : Fin (keys b)) (e : Fin 128) :
    headOf b X h (ix3 0 t e) = X (ix3 h (t.castLE (keys_le b)) e) := by
  refine congrArg X ?_
  idx_ext

/-- One head's attention on one block is that head's attention at the block's rows. -/
theorem headOut_attend (hi : i.Real) (r : Fin 256) (e : Fin 128) :
    headOut b h (k0_pay1 i.x i.wq) (headOf b i.k h) (headOf b i.v h) (ix2 r e)
      = attend (queryOf i (rowIx b r) h) (fun t e => i.k (ix3 h t e)) (fun t => i.v (ix3 h t e)) (rowIx b r) := by
  rw [headOut_at, attend_prefix (q := queryOf i (rowIx b r) h) (K := fun t e => i.k (ix3 h t e)) (W := keys b) (fun e => IsReal.sum fun j => (hi.1 _ _).mul (hi.2.1 _ _)) (fun t e => hi.2.2 _ _ _) _ _ (keys_le b)]
  · refine Finset.sum_congr rfl fun t _ => congrArg₂ (· * ·) (congrArg (fun s => weight s t) (funext fun t => ?_)) (headOf_at b h i.v t e)
    rw [scores_at, score]
    refine if_congr Iff.rfl (congrArg (· * scale) (Finset.sum_congr rfl fun e _ => congrArg₂ (· * ·) (pay1_at i _ _) (headOf_at b h i.k t e))) rfl
  · show 256 * b.val + r.val < 256 * (b.val + 1)
    omega
  · exact ⟨4 * (b.val + 1), by show 256 * (b.val + 1) = _; omega⟩

/-- The head of a column. -/
def headIx (k : Fin 1024) : Fin 8 := ⟨k.val / 128, by omega⟩
/-- The position of a column in its head. -/
def innerCol (k : Fin 1024) : Fin 128 := ⟨k.val % 128, by omega⟩

/-- Eight heads side by side at a column. -/
theorem heads_at (H : Fin 8 → FVec Ideal S256x128 .f32) (r : Fin 256) (k : Fin 1024) :
    concatenate S256x1024 1 [⟨S256x128, H 0⟩, ⟨S256x128, H 1⟩, ⟨S256x128, H 2⟩, ⟨S256x128, H 3⟩, ⟨S256x128, H 4⟩, ⟨S256x128, H 5⟩,
        ⟨S256x128, H 6⟩, ⟨S256x128, H 7⟩]
      concatenates_S256x128_S256x128_S256x128_S256x128_S256x128_S256x128_S256x128_S256x128_S256x1024_d1 (ix2 r k)
      = H (headIx k) (ix2 r (innerCol k)) := by
  have key : ∀ (h : Fin 8) (e : Fin 128), headIx k = h → innerCol k = e → k.val = 128 * h.val + e.val := fun h e hh he => by
    rw [← hh, ← he]; simp only [headIx, innerCol]; omega
  obtain ⟨h, hh⟩ : ∃ h, headIx k = h := ⟨_, rfl⟩
  obtain ⟨e, he⟩ : ∃ e, innerCol k = e := ⟨_, rfl⟩
  have hk := key h e hh he
  rw [hh, he]
  have pick (g : Fin 8) (n : Nat) (hn : n < 128) (hg : g.val = h.val) (hne : n = e.val) :
      H g (ix2 r ⟨n, hn⟩) = H h (ix2 r e) := by
    obtain rfl := Fin.ext hg
    exact congrArg (fun e => H g (ix2 r e)) (Fin.ext hne)
  pointwise
  have := e.isLt
  have := h.isLt
  have cases {p : Prop} [Decidable p] {x : p → EReal} {y : ¬p → EReal} {z : EReal} (h1 : ∀ q, x q = z) (h2 : ∀ q, y q = z) :
      dite p x y = z := by
    by_cases q : p
    · rw [dif_pos q]; exact h1 q
    · rw [dif_neg q]; exact h2 q
  refine cases (fun q => pick 0 _ _ (show 0 = h.val by omega) (by omega)) fun q0 => ?_
  refine cases (fun q => pick 1 _ _ (show 1 = h.val by omega) (by omega)) fun q1 => ?_
  refine cases (fun q => pick 2 _ _ (show 2 = h.val by omega) (by omega)) fun q2 => ?_
  refine cases (fun q => pick 3 _ _ (show 3 = h.val by omega) (by omega)) fun q3 => ?_
  refine cases (fun q => pick 4 _ _ (show 4 = h.val by omega) (by omega)) fun q4 => ?_
  refine cases (fun q => pick 5 _ _ (show 5 = h.val by omega) (by omega)) fun q5 => ?_
  refine cases (fun q => pick 6 _ _ (show 6 = h.val by omega) (by omega)) fun q6 => ?_
  exact pick 7 _ _ (show 7 = h.val by omega) (by omega)

/-! ## A device's partial output -/

/-- The partial output at a row and a column: every head's attention at the row, times the output weights. -/
theorem partOf_at (hi : i.Real) (R n : Fin 1024) :
    partOf i (ix2 R n) = ∑ k : Fin 1024, attend (queryOf i R (headIx k)) (fun t e => i.k (ix3 (headIx k) t e))
      (fun t => i.v (ix3 (headIx k) t (innerCol k))) R * i.wo (ix2 k n) := by
  obtain ⟨b, hb⟩ : ∃ b : Fin 4, b.val = R.val / 256 := ⟨⟨R.val / 256, by omega⟩, rfl⟩
  obtain ⟨r, hr⟩ : ∃ r : Fin 256, r.val = R.val % 256 := ⟨⟨R.val % 256, by omega⟩, rfl⟩
  obtain rfl : rowIx b r = R := Fin.ext (by show 256 * b.val + r.val = R.val; omega)
  have h1 : partOf i (ix2 (rowIx b r) n) = blkOf i b (ix2 r n) := by
    unfold partOf stack
    refine congrArg₂ (blkOf i) (Fin.ext hb.symm) ?_
    funext a
    refine Fin.cases (Fin.ext hr.symm) (fun a => Fin.cases rfl (fun a => a.elim0) a) a
  have hk : ∀ (X : Vec Ideal S8x1024x128 .f32) (h : Fin 8),
      (![headOf b X 0, headOf b X 1, headOf b X 2, headOf b X 3, headOf b X 4, headOf b X 5, headOf b X 6, headOf b X 7] :
        Fin 8 → Vec Ideal (SK1 b) .f32) h = headOf b X h := fun X h => by fin_cases h <;> rfl
  rw [h1, blkOf, blockOut]
  refine (plain_at 256 1024 1024 _ _ _ r n).trans ?_
  rw [show (constant S256x1024 .f32 0x00000000#32 : FVec Ideal S256x1024 .f32) (ix2 r n) = (0 : EReal) from Ideal.ofBits_zero_f32, zero_add]
  refine Finset.sum_congr rfl fun k _ => congrArg₂ (· * ·) ?_ (pay2_at i k n)
  refine (heads_at (fun h => headOut b h (k0_pay1 i.x i.wq) (headOf b i.k h) (headOf b i.v h)) r k).trans ?_
  exact headOut_attend b (headIx k) i hi r (innerCol k)

end Cert.KernelIdeal.Own
-- ==== Proof.Values.Host.lean ====
module

public import proofs.«01_k».proof.Proof.Values.Head
public import proofs.«01_k».proof.Proof.KernelIdeal.Region
public import Idealize.ShloMosaic.Lib.StableHlo.RunClose

/-! # What the host code around the call computes

Before the call the host drops the leading axis of the activations and takes each device's eight
heads of the keys and of the values; after it, it puts the leading axis back. -/

@[expose] public section

set_option maxRecDepth 16384

noncomputable section

namespace Cert.KernelIdeal.Own

open Idealize.ShloMosaic Idealize.ShloMosaic.TcCoe Idealize.SL.Sem Idealize.ShloMosaic.StableHlo
open Cert.KernelIdeal Cert.KernelIdeal.Gen Cert.Own

/-- The first of a device's heads, as the host computes it. -/
def headWord (c : Dev nD) : IVec S_ 32 :=
  let d : IVec S_ 32 := muli (id (Host.remui (Host.divui (constantI S_ 32 (Dev.word c)) (constantI S_ 32 1#32)) (constantI S_ 32 16#32)))
    (constantI S_ 32 8#32)
  select (cmpi .slt d (constantI S_ 32 0#32)) (addi d (constantI S_ 32 128#32)) d

/-- It is eight times the device's number. -/
theorem headWord_at : ∀ c : Dev nD, (headWord c ix0).toInt = 8 * c.val := by
  decide +kernel

/-- A device's heads of the keys or of the values. -/
def headsOf (c : Dev nD) (X : FVec Ideal S1x1024x128x128 .f32) : FVec Ideal S8x1024x128 .f32 :=
  transpose S8x1024x128 [1, 0, 2]
    (Host.dynamicSlice S1024x8x128 (shapeCast S1024x128x128 X shapeCasts_S1x1024x128x128_S1024x128x128)
      (fun k : Fin 3 => ((![constantI S_ 32 0#32, headWord c, constantI S_ 32 0#32] k : IVec S_ 32) (Shape.Idx.first h_S_)).toInt)
      sliceFits_S1024x128x128_S1024x8x128) transposes_S1024x8x128_S8x1024x128_1_0_2

variable (m : (ℓ : Loc nD τ sig) → Buf (Elt Ideal) ℓ) (c : Dev nD)

/-- The body's activations. -/
theorem in_x : (I m c).x = shapeCast S1024x1024 (m ((c.tc : Thread nD τ).loc main_arg0)) shapeCasts_S1x1024x1024_S1024x1024 := by
  show V1 m c main_v5 = _
  unfold V1
  after_results_simp
  rfl

/-- The body's query weights. -/
theorem in_wq : (I m c).wq = m ((c.tc : Thread nD τ).loc main_arg1) := V1_of m c main_arg1 (by decide)
/-- The body's output weights. -/
theorem in_wo : (I m c).wo = m ((c.tc : Thread nD τ).loc main_arg4) := V1_of m c main_arg4 (by decide)

set_option maxHeartbeats 1000000 in
/-- The body's keys. -/
theorem in_k : (I m c).k = headsOf c (m ((c.tc : Thread nD τ).loc main_arg2)) := by
  show V1 m c main_v18 = _
  unfold V1
  after_results_simp_entrywise
  rfl

set_option maxHeartbeats 1000000 in
/-- The body's values. -/
theorem in_v : (I m c).v = headsOf c (m ((c.tc : Thread nD τ).loc main_arg3)) := by
  show V1 m c main_v19 = _
  unfold V1
  after_results_simp_entrywise
  rfl

/-- The head of the whole array that is a device's head `h`. -/
def wholeHead (h : Fin 8) : Fin 128 := ⟨8 * c.val + h.val, by have : c.val < 16 := c.isLt; omega⟩

/-- A device's heads at an index. -/
theorem headsOf_at (X : FVec Ideal S1x1024x128x128 .f32) (h : Fin 8) (t : Fin 1024) (e : Fin 128) :
    headsOf c X (ix3 h t e) = X (ix4 0 t (wholeHead c h) e) := by
  pointwise [headsOf]
  have h1 : (headWord c (Shape.Idx.first h_S_)).toInt = 8 * c.val := headWord_at c
  have hc : c.val < 16 := c.isLt
  have e0 (h : _ < 1024) : (⟨_, h⟩ : Fin 1024) = t := Fin.ext (a := ⟨Host.clampedStart S1024x128x128 S1024x8x128 rfl
    (fun k : Fin 3 => ((![constantI S_ 32 0#32, headWord c, constantI S_ 32 0#32] k : IVec S_ 32) (Shape.Idx.first h_S_)).toInt) 0 + t.val, h⟩) (by
      show (min (max ((0#32).toInt) 0) ((1024 - 1024 : ℕ) : ℤ)).toNat + t.val = t.val
      simp)
  have e1 (h' : _ < 128) : (⟨_, h'⟩ : Fin 128) = wholeHead c h := Fin.ext (a := ⟨Host.clampedStart S1024x128x128 S1024x8x128 rfl
    (fun k : Fin 3 => ((![constantI S_ 32 0#32, headWord c, constantI S_ 32 0#32] k : IVec S_ 32) (Shape.Idx.first h_S_)).toInt) 1 + h.val, h'⟩) (by
      show (min (max (headWord c (Shape.Idx.first h_S_)).toInt 0) ((128 - 8 : ℕ) : ℤ)).toNat + h.val = 8 * c.val + h.val
      rw [h1]
      omega)
  have e2 (h : _ < 128) : (⟨_, h⟩ : Fin 128) = e := Fin.ext (a := ⟨Host.clampedStart S1024x128x128 S1024x8x128 rfl
    (fun k : Fin 3 => ((![constantI S_ 32 0#32, headWord c, constantI S_ 32 0#32] k : IVec S_ 32) (Shape.Idx.first h_S_)).toInt) 2 + e.val, h⟩) (by
      show (min (max ((0#32).toInt) 0) ((128 - 128 : ℕ) : ℤ)).toNat + e.val = e.val
      simp)
  rw [e0, e1, e2]

/-- The program's result. -/
theorem result_at (R n : Fin 1024) :
    (V3 m (outs m) c main_v21 : FVec Ideal S1x1024x1024 .f32) (ix3 0 R n) = outOf (I m) c (ix2 R n) := by
  have h : V3 m (outs m) c main_v21 = broadcastInDim S1x1024x1024 ![1, 2] bcast_S1024x1024_S1x1024x1024_1_2 (outOf (I m) c) := by
    rw [← v20_after m c]
    unfold V3
    after_results
  rw [h]
  generalize outOf (I m) c = o
  pointwise

end Cert.KernelIdeal.Own
-- ==== Proof.Values.Finite.lean ====
module

public import proofs.«01_k».proof.Defs
public import proofs.«01_k».proof.Proof.Values.Host
public import Idealize.ShloMosaic.Lib.Pointwise

/-! # What the precondition says

Every element of the activations, of the query weights and of the keys is a real. -/

@[expose] public section

set_option maxRecDepth 16384

noncomputable section

namespace Cert.Proof

open Idealize.ShloMosaic Idealize.ShloMosaic.TcCoe Idealize.SL.Sem Cert.Own

/-- The side conditions of the precondition's function. -/
theorem pre_facts : Cert.Pre_scores_finite_KernelIdeal.Facts := ⟨by decide, by decide, by decide⟩
/-- The same of the whole arrays' function. -/
theorem pre_facts' : Cert.Pre_scores_finite_ReferenceIdeal.Facts := ⟨by decide, by decide, by decide⟩

/-- The literal above every real. -/
theorem lit_top : Ideal.ofBits .f32 0x7F800000#32 = ⊤ := by
  simp [Ideal.ofBits, Ideal.ieee]

/-- An element strictly between the two literals is a real. -/
theorem isReal_of_cmp {x : EReal} (h : IntOp.andi (Ideal.cmp .ogt x (Ideal.ofBits .f32 0xFF800000#32)) (Ideal.cmp .olt x (Ideal.ofBits .f32 0x7F800000#32)) = 1#1) :
    IsReal x := by
  rw [lit_bot, lit_top] at h
  refine isReal_of_ne (fun e => ?_) (fun e => ?_)
  · subst e
    revert h
    simp [Ideal.cmp, IntOp.andi]
  · subst e
    revert h
    simp [Ideal.cmp, IntOp.andi]

attribute [local instance] pre_facts

variable {m : (ℓ : Loc Cert.KernelIdeal.nD Cert.KernelIdeal.τ Cert.KernelIdeal.sig) → Buf (Elt Ideal) ℓ}

/-- The activations are reals. -/
theorem real_x (h : Cert.Pre_KernelIdeal_scores_finite_KernelIdeal m) (c : Dev Cert.KernelIdeal.nD) (r j : Fin 1024) :
    IsReal (m ((c.tc : Thread Cert.KernelIdeal.nD Cert.KernelIdeal.τ).loc Cert.KernelIdeal.main_arg0) (ix3 0 r j)) :=
  isReal_of_cmp (congrFun (h c).1 (ix3 0 r j))

/-- The query weights are reals. -/
theorem real_wq (h : Cert.Pre_KernelIdeal_scores_finite_KernelIdeal m) (c : Dev Cert.KernelIdeal.nD) (j k : Fin 1024) :
    IsReal (m ((c.tc : Thread Cert.KernelIdeal.nD Cert.KernelIdeal.τ).loc Cert.KernelIdeal.main_arg1) (ix2 j k)) :=
  isReal_of_cmp (congrFun (h c).2.1 (ix2 j k))

/-- The keys are reals. -/
theorem real_k (h : Cert.Pre_KernelIdeal_scores_finite_KernelIdeal m) (c : Dev Cert.KernelIdeal.nD) (t : Fin 1024) (a e : Fin 128) :
    IsReal (m ((c.tc : Thread Cert.KernelIdeal.nD Cert.KernelIdeal.τ).loc Cert.KernelIdeal.main_arg2) (ix4 0 t a e)) :=
  isReal_of_cmp (congrFun (h c).2.2 (ix4 0 t a e))

/-- The activations that a device's body reads, at an index. -/
theorem x_at (m : (ℓ : Loc Cert.KernelIdeal.nD Cert.KernelIdeal.τ Cert.KernelIdeal.sig) → Buf (Elt Ideal) ℓ)
    (c : Dev Cert.KernelIdeal.nD) (r j : Fin 1024) : (Cert.KernelIdeal.Own.I m c).x (ix2 r j)
      = m ((c.tc : Thread Cert.KernelIdeal.nD Cert.KernelIdeal.τ).loc Cert.KernelIdeal.main_arg0) (ix3 0 r j) := by
  rw [Cert.KernelIdeal.Own.in_x]
  generalize m ((c.tc : Thread Cert.KernelIdeal.nD Cert.KernelIdeal.τ).loc Cert.KernelIdeal.main_arg0) = X
  have key (X : FVec Ideal Cert.KernelIdeal.S1x1024x1024 .f32) (hs) : shapeCast Cert.KernelIdeal.S1024x1024 X hs (ix2 r j) = X (ix3 0 r j) := by
    pointwise
  exact key X _

/-- Every operand of the scores is a real, on every device. -/
theorem ins_real (h : Cert.Pre_KernelIdeal_scores_finite_KernelIdeal m) (c : Dev Cert.KernelIdeal.nD) : (Cert.KernelIdeal.Own.I m c).Real := by
  refine ⟨fun r j => ?_, fun j k => ?_, fun a t e => ?_⟩
  · rw [x_at]; exact real_x h c r j
  · rw [Cert.KernelIdeal.Own.in_wq]; exact real_wq h c j k
  · rw [Cert.KernelIdeal.Own.in_k, Cert.KernelIdeal.Own.headsOf_at]; exact real_k h c t _ e

end Cert.Proof
-- ==== Proof.Values.Output.lean ====
module

public import proofs.«01_k».proof.Proof.Values.Head

/-! # The kernel's output at an index

Over the extended reals the casts of the exchange are the identity, so every device's output is the
sum of all the devices' partial outputs. -/

@[expose] public section

set_option maxRecDepth 16384

noncomputable section

namespace Cert.KernelIdeal.Own

open Idealize.ShloMosaic Cert.KernelIdeal Cert.KernelIdeal.Gen Cert.Own

variable (I : Dev nD → Ins Ideal)

/-- Row `i` of chunk `d`. -/
def chunkIx (d : Dev nD) (i : Fin 64) : Fin 1024 := ⟨64 * d.val + i.val, by have : d.val < 16 := d.isLt; omega⟩

/-- A received chunk, read as the accumulator reads it. -/
theorem got_at (c : Dev nD) (j : Fin 15) (i : Fin 64) (n : Fin 1024) :
    shapeCast S64x1024 (got I c j) shapeCasts_S1x64x1024_S64x1024 (ix2 i n) = chunk I (pv c j) j (ix2 i n) := by
  have h : got I c j = slotOf (chunk I (pv c j) j) := funext fun x => congrArg (slotOf (chunk I (pv c j) j)) (Equiv.apply_symm_apply _ x)
  rw [h]
  pointwise [slotOf]

/-- A row of the rows that start at chunk `d`. -/
theorem emb_at {off : Fin 2 → ℕ} {d : Dev nD} (ho : off = ![64 * d.val, 0]) (inb : ∀ a : Fin 2, off a + S64x1024.size a ≤ S1024x1024.size a)
    (i : Fin 64) (n : Fin 1024) : (Rect.unit (s := S1024x1024) off S64x1024.size inb).emb (ix2 i n) = ix2 (chunkIx d i) n := by
  subst ho
  funext a
  refine Fin.cases (Fin.ext ?_) (fun a => Fin.cases (Fin.ext ?_) (fun a => a.elim0) a) a
  · show 64 * d.val + 1 * i.val = 64 * d.val + i.val
    omega
  · show 0 + 1 * n.val = n.val
    omega

/-- What a device is sent is its rows of the sender's partial output. -/
theorem chunk_at (c : Dev nD) (j : Fin 15) (i : Fin 64) (n : Fin 1024) :
    chunk I (pv c j) j (ix2 i n) = partOf (I (pv c j)) (ix2 (chunkIx c i) n) := by
  refine congrArg (partOf (I (pv c j))) (emb_at (d := c) ?_ _ i n)
  rw [k0_off1_eq, show ((pv c j).val + j.val + 1) % 16 = c.val from congrArg Fin.val (nx_pv c j)]

/-- The device's own rows. -/
theorem own_at (c : Dev nD) (i : Fin 64) (n : Fin 1024) : own I c (ix2 i n) = partOf (I c) (ix2 (chunkIx c i) n) := by
  exact congrArg (partOf (I c)) (emb_at (k0_off2_eq c) _ i n)

/-- The accumulator after a list of slots. -/
theorem accL_at (c : Dev nD) (i : Fin 64) (n : Fin 1024) (l : List (Fin 15)) (a : FVec Ideal S64x1024 .f32) :
    accL I c l a (ix2 i n) = a (ix2 i n) + (l.map fun j => partOf (I (pv c j)) (ix2 (chunkIx c i) n)).sum := by
  induction l generalizing a with
  | nil => exact (add_zero (a (ix2 i n))).symm
  | cons j l ih =>
    rw [List.map_cons, List.sum_cons, ← add_assoc]
    refine (ih (accStep a (got I c j))).trans (congrArg (· + _) ?_)
    exact congrArg (a (ix2 i n) + ·) ((got_at I c j i n).trans (chunk_at I c j i n))

/-- The reduced chunk is the sum over the devices. -/
theorem accOf_at (c : Dev nD) (i : Fin 64) (n : Fin 1024) :
    accOf I c (ix2 i n) = ∑ d : Dev nD, partOf (I d) (ix2 (chunkIx c i) n) := by
  have h0 : acc0 (own I c) (ix2 i n) = partOf (I c) (ix2 (chunkIx c i) n) := by
    refine Eq.trans ?_ (own_at I c i n)
    pointwise [acc0]
  have h1 : (Finset.univ : Finset (Dev nD)) = (c :: slots.map (pv c)).toFinset :=
    (Finset.eq_univ_iff_forall.2 fun d => List.mem_toFinset.2 (mem_before c d)).symm
  rw [accOf, accL_at, h0, h1, List.sum_toFinset _ (nodup_before c), show ∀ l : List (Fin 15), ((c :: l.map (pv c)).map fun d => partOf (I d) (ix2 (chunkIx c i) n)).sum
      = partOf (I c) (ix2 (chunkIx c i) n) + (l.map fun j => partOf (I (pv c j)) (ix2 (chunkIx c i) n)).sum from
    fun l => by rw [List.map_cons, List.sum_cons, List.map_map]; rfl]

/-- Every device's output is the sum of all the partial outputs. -/
theorem outOf_at (c : Dev nD) (R n : Fin 1024) : outOf I c (ix2 R n) = ∑ d : Dev nD, partOf (I d) (ix2 R n) := by
  obtain ⟨d, hd⟩ : ∃ d : Dev nD, d.val = R.val / 64 := ⟨⟨R.val / 64, by show _ < 16; omega⟩, rfl⟩
  obtain ⟨i, hi⟩ : ∃ i : Fin 64, i.val = R.val % 64 := ⟨⟨R.val % 64, by omega⟩, rfl⟩
  obtain rfl : chunkIx d i = R := Fin.ext (by show 64 * d.val + i.val = R.val; omega)
  have h1 : outOf I c (ix2 (chunkIx d i) n)
      = (if d = c then accOf I c else extf .f32 (red I d : FVec Ideal S64x1024 .bf16) bitsLt_bf16_f32) (ix2 i n) := by
    unfold outOf stack
    refine congrArg₂ (fun (d : Dev nD) =>
      (if d = c then accOf I c else extf .f32 (red I d : FVec Ideal S64x1024 .bf16) bitsLt_bf16_f32 : FVec Ideal S64x1024 .f32)) (Fin.ext hd.symm) ?_
    funext a
    refine Fin.cases (Fin.ext hi.symm) (fun a => Fin.cases rfl (fun a => a.elim0) a) a
  have h2 : extf .f32 (red I d : FVec Ideal S64x1024 .bf16) bitsLt_bf16_f32 (ix2 i n) = accOf I d (ix2 i n) := by
    unfold red redOf
    pointwise
  rw [h1, ← accOf_at]
  by_cases h : d = c
  · rw [if_pos h, h]
  · rw [if_neg h, h2]

end Cert.KernelIdeal.Own
-- ==== Proof.Values.Reference.lean ====
module

public import proofs.«01_k».proof.Proof.Values.Attention
public import proofs.«01_k».proof.Proof.Gen.ReferenceIdeal.Run
public import Idealize.ShloMosaic.Lib.Pointwise
public import Idealize.ShloMosaic.Lib.Pointwise.IndexVar
public import Idealize.ShloMosaic.Lib.Routing.OpsOrder

/-! # The reference's result at an index

Over the extended reals, element `(0, r, n)` of the reference's result is the sum over the 16384
columns of the attention of that column's head at row `r`, times the projection's element. -/

@[expose] public section

set_option maxRecDepth 16384

noncomputable section

namespace Cert.ReferenceIdeal.Own

open Idealize.ShloMosaic Idealize.ShloMosaic.TcCoe Idealize.SL.Sem Cert.ReferenceIdeal Cert.ReferenceIdeal.Gen Cert.Own

/-! ## The mask -/

/-- Every row's block. -/
def block : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- Which keys a row looks at. -/
def seen : IVec S1024x1024 1 :=
  cmpi .sle (broadcastInDim S1024x1024 ![0, 1] bcast_S1x1024_S1024x1024_0_1 (broadcastInDim S1x1024 ![1] bcast_S1024_S1x1024_1 block))
    (broadcastInDim S1024x1024 ![0, 1] bcast_S1024x1_S1024x1024_0_1 (broadcastInDim S1024x1 ![0] bcast_S1024_S1024x1_0 block))

/-- Which rows look at some key. -/
def someSeen : IVec S1024 1 := Host.reduce IntOp.ori seen (constantI S_ 1 0#1) reducesTo_S1024x1024_S1024_d1 h_S_

/-- A row's block is its index over 64. -/
theorem block_at (r : Fin 1024) : block (ix1 r) = BitVec.ofNat 32 (r.val / 64) := by
  pointwise [block]
  revert r
  decide +kernel

/-- Comparing two blocks. -/
theorem sle_word : ∀ a b : Fin 16, IntOp.cmpi .sle (BitVec.ofNat 32 a.val) (BitVec.ofNat 32 b.val) = if a.val ≤ b.val then 1#1 else 0#1 := by
  decide +kernel

/-- A row looks at the keys of the blocks up to its own. -/
theorem seen_at (r t : Fin 1024) : seen (ix2 r t) = if t.val / 64 ≤ r.val / 64 then 1#1 else 0#1 := by
  have h : seen (ix2 r t) = IntOp.cmpi .sle (block (ix1 t)) (block (ix1 r)) := by
    pointwise [seen]
  rw [h, block_at, block_at]
  exact sle_word ⟨t.val / 64, by omega⟩ ⟨r.val / 64, by omega⟩

/-- Every row looks at some key. -/
theorem someSeen_at (r : Fin 1024) : someSeen (ix1 r) = 1#1 := by
  pointwise [someSeen]
  refine (Routing.fold_ori _ _).2 ⟨0, Finset.mem_univ _, ?_⟩
  rw [seen_at, if_pos (show (0 : Fin 1024).val / 64 ≤ r.val / 64 from Nat.zero_le _)]

/-- A choice by a set bit. -/
theorem select_one (a b : EReal) : Scalar.select 1#1 a b = a := rfl
/-- A choice by a clear bit. -/
theorem select_zero (a b : EReal) : Scalar.select 0#1 a b = b := rfl

/-! ## The scores -/

/-- The column of position `e` of head `h`. -/
def colIx (h e : Fin 128) : Fin 16384 := ⟨128 * h.val + e.val, by omega⟩
/-- The head of a column. -/
def headIx (k : Fin 16384) : Fin 128 := ⟨k.val / 128, by omega⟩
/-- The position of a column in its head. -/
def innerCol (k : Fin 16384) : Fin 128 := ⟨k.val % 128, by omega⟩

variable (x : FVec Ideal S1x1024x1024 .f32) (wq : FVec Ideal S1024x16384 .f32) (k v : FVec Ideal S1x1024x128x128 .f32)
  (wo : FVec Ideal S16384x1024 .f32)

/-- The queries. -/
def queries : FVec Ideal S1x1024x128x128 .f32 :=
  shapeCast _ (Host.dotGeneral dot_S1x1024x1024_S1024x16384_S1x1024x16384_2_0_01_1_n_n none x wq) shapeCasts_S1x1024x16384_S1x1024x128x128

/-- The masked scores, of any queries. -/
def scores (q : FVec Ideal S1x1024x128x128 .f32) : FVec Ideal S1x128x1024x1024 .f32 :=
  select (broadcastInDim S1x128x1024x1024 ![0, 1, 2, 3] bcast_S1x1x1024x1024_S1x128x1024x1024_0_1_2_3
      (broadcastInDim S1x1x1024x1024 ![2, 3] bcast_S1024x1024_S1x1x1024x1024_2_3 seen))
    (mulf (Host.dotGeneral dot_S1x1024x128x128_S1x1024x128x128_S1x128x1024x1024_3_3_1_1_02_02 none q k)
      (broadcastInDim S1x128x1024x1024 ![] bcast_S_S1x128x1024x1024 (constant S_ .f32 0x3DB504F3#32)))
    (broadcastInDim S1x128x1024x1024 ![] bcast_S_S1x128x1024x1024 (id (constant S_ .f32 0xFF800000#32)))

/-- A query: the row's product with the column of its head and position. -/
theorem queries_at (r : Fin 1024) (h e : Fin 128) :
    queries x wq (ix4 0 r h e) = ∑ j : Fin 1024, x (ix3 0 r j) * wq (ix2 j (colIx h e)) := by
  pointwise [queries]
  exact Finset.sum_congr rfl fun j _ => congrArg (fun c => x (ix3 0 r j) * wq (ix2 j c)) (Fin.ext (congrArg (· + e.val) (Nat.mul_comm h.val 128)))

/-- A masked score. -/
theorem scores_at (q : FVec Ideal S1x1024x128x128 .f32) (h : Fin 128) (r t : Fin 1024) :
    scores k q (ix4 0 h r t) = score (fun e : Fin 128 => q (ix4 0 r h e)) (fun t e => k (ix4 0 t h e)) r t := by
  have h1 : scores k q (ix4 0 h r t) = Scalar.select (seen (ix2 r t)) ((∑ e : Fin 128, q (ix4 0 r h e) * k (ix4 0 t h e)) * scale)
      (Ideal.ofBits .f32 0xFF800000#32) := by
    pointwise [scores]
    rfl
  rw [h1, seen_at, lit_bot, score]
  by_cases ht : t.val / 64 ≤ r.val / 64
  · rw [if_pos ht, if_pos ht]
    exact select_one _ _
  · rw [if_neg ht, if_neg ht]
    exact select_zero _ _

/-! ## The weights -/

/-- The exponentials of a row less its greatest element. -/
def exps (s : FVec Ideal S1x128x1024x1024 .f32) : FVec Ideal S1x128x1024x1024 .f32 :=
  Host.exp (subf s (broadcastInDim S1x128x1024x1024 ![0, 1, 2, 3] bcast_S1x128x1024x1_S1x128x1024x1024_0_1_2_3
    (broadcastInDim S1x128x1024x1 ![0, 1, 2] bcast_S1x128x1024_S1x128x1024x1_0_1_2
      (Host.reduce FloatOps.maximumf s (constant S_ .f32 0xFF800000#32) reducesTo_S1x128x1024x1024_S1x128x1024_d3 h_S_))))

/-- Their quotients by the row's sum, where the row looks at some key. -/
def weights (p : FVec Ideal S1x128x1024x1024 .f32) : FVec Ideal S1x128x1024x1024 .f32 :=
  select (broadcastInDim S1x128x1024x1024 ![0, 1, 2, 3] bcast_S1x1x1024x1_S1x128x1024x1024_0_1_2_3
      (broadcastInDim S1x1x1024x1 ![2] bcast_S1024_S1x1x1024x1_2 someSeen))
    (Host.divf p (broadcastInDim S1x128x1024x1024 ![0, 1, 2, 3] bcast_S1x128x1024x1_S1x128x1024x1024_0_1_2_3
      (select (broadcastInDim S1x128x1024x1 ![0, 1, 2, 3] bcast_S1x1x1024x1_S1x128x1024x1_0_1_2_3
          (broadcastInDim S1x1x1024x1 ![2] bcast_S1024_S1x1x1024x1_2 someSeen))
        (broadcastInDim S1x128x1024x1 ![0, 1, 2] bcast_S1x128x1024_S1x128x1024x1_0_1_2
          (Host.reduceAdd p (constant S_ .f32 0x00000000#32) reducesTo_S1x128x1024x1024_S1x128x1024_d3 h_S_))
        (broadcastInDim S1x128x1024x1 ![] bcast_S_S1x128x1024x1 (id (constant S_ .f32 0x3F800000#32))))))
    (broadcastInDim S1x128x1024x1024 ![] bcast_S_S1x128x1024x1024 (id (constant S_ .f32 0x00000000#32)))

/-- An exponential. -/
theorem exps_at (s : FVec Ideal S1x128x1024x1024 .f32) (h : Fin 128) (r t : Fin 1024) :
    exps s (ix4 0 h r t) = rowExp (fun t => s (ix4 0 h r t)) t := by
  pointwise [exps]
  rw [lit_bot]
  rfl

/-- A weight. -/
theorem weights_at (s : FVec Ideal S1x128x1024x1024 .f32) (h : Fin 128) (r t : Fin 1024) :
    weights (exps s) (ix4 0 h r t) = weight (fun t => s (ix4 0 h r t)) t := by
  have h1 : weights (exps s) (ix4 0 h r t) = Scalar.select (someSeen (ix1 r)) (Ideal.div (exps s (ix4 0 h r t))
      (Scalar.select (someSeen (ix1 r)) (∑ u, exps s (ix4 0 h r u)) (Ideal.ofBits .f32 0x3F800000#32))) (Ideal.ofBits .f32 0x00000000#32) := by
    generalize exps s = p
    refine Eq.trans (b := Scalar.select (someSeen (ix1 r)) (Ideal.div (p (ix4 0 h r t))
      (Scalar.select (someSeen (ix1 r)) (∑ u, p (ix4 0 h r u)) (id (constant (F := Ideal) S_ .f32 0x3F800000#32) ix0)))
        (id (constant (F := Ideal) S_ .f32 0x00000000#32) ix0)) ?_ rfl
    pointwise [weights]
  have h2 : (∑ u, exps s (ix4 0 h r u)) = rowSum (fun t => s (ix4 0 h r t)) := Finset.sum_congr rfl fun u _ => exps_at s h r u
  rw [h1, someSeen_at, select_one, select_one, exps_at, h2, weight]

/-! ## The result -/

/-- The result, of any weights. -/
def result (w : FVec Ideal S1x128x1024x1024 .f32) : FVec Ideal S1x1024x1024 .f32 :=
  Host.dotGeneral dot_S1x1024x16384_S16384x1024_S1x1024x1024_2_0_01_1_n_n none
    (shapeCast _ (transpose S1x1024x128x128 [0, 3, 1, 2]
      (Host.dotGeneral dot_S1x1024x128x128_S1x128x1024x1024_S1x128x128x1024_1_3_3_2_02_01 none v w)
      transposes_S1x128x128x1024_S1x1024x128x128_0_3_1_2) shapeCasts_S1x1024x128x128_S1x1024x16384) wo

/-- The result at a row and a column. -/
theorem result_at (w : FVec Ideal S1x128x1024x1024 .f32) (r n : Fin 1024) :
    result v wo w (ix3 0 r n) = ∑ c : Fin 16384, (∑ t : Fin 1024, v (ix4 0 t (headIx c) (innerCol c)) * w (ix4 0 (headIx c) r t)) * wo (ix2 c n) := by
  pointwise [result]
  rfl

/-- The reference's result at a row and a column: every head's attention at the row, times the output weights. -/
theorem reference_at (r n : Fin 1024) :
    result v wo (weights (exps (scores k (queries x wq)))) (ix3 0 r n)
      = ∑ c : Fin 16384, attend (fun e : Fin 128 => ∑ j : Fin 1024, x (ix3 0 r j) * wq (ix2 j (colIx (headIx c) e)))
          (fun t e => k (ix4 0 t (headIx c) e)) (fun t => v (ix4 0 t (headIx c) (innerCol c))) r * wo (ix2 c n) := by
  rw [result_at]
  refine Finset.sum_congr rfl fun c _ => congrArg (· * wo (ix2 c n)) (Finset.sum_congr rfl fun t _ => congrArg (v _ * ·) ?_)
  rw [weights_at]
  refine congrArg (fun s => weight s t) (funext fun t => ?_)
  rw [scores_at]
  exact congrArg (fun q => score q (fun t e => k (ix4 0 t (headIx c) e)) r t) (funext fun e => queries_at x wq r (headIx c) e)

/-- The program's composed term is that result of its arguments. -/
theorem composed (m : (ℓ : Loc nD τ sig) → Buf (Elt Ideal) ℓ) (c : Dev nD) :
    Value.res_out0 m c = result (m ((c.tc : Thread nD τ).loc main_arg3)) (m ((c.tc : Thread nD τ).loc main_arg4))
      (weights (exps (scores (m ((c.tc : Thread nD τ).loc main_arg2))
        (queries (m ((c.tc : Thread nD τ).loc main_arg0)) (m ((c.tc : Thread nD τ).loc main_arg1)))))) := by
  show Value.res_main_v33 m c = _
  unfold Value.res_main_v33 result weights exps scores queries someSeen seen block
  rfl

end Cert.ReferenceIdeal.Own
-- ==== Proof.Claims.Algebraic.lean ====
module

public import proofs.«01_k».proof.Proof.Values.Finite
public import proofs.«01_k».proof.Proof.Values.Output
public import proofs.«01_k».proof.Proof.Values.Reference
public import proofs.«01_k».proof.Proof.KernelIdeal.Launch

/-! # The kernel's result is the reference's

Both results are sums over the 16384 columns of the attention's output: the reference adds them up
at once, the kernel adds each device's 1024 columns and then the sixteen partial sums. -/

@[expose] public section

set_option maxRecDepth 16384

noncomputable section

namespace Cert.Proof

open Idealize.ShloMosaic Idealize.ShloMosaic.TcCoe Idealize.SL.Sem Cert.Own
open Cert.KernelIdeal.Own (I queryOf outOf)

/-- A sum over all the columns is the sum over the devices of the sums over their columns. -/
theorem sum_columns (f : Fin 16384 → EReal) :
    ∑ k : Fin 16384, f k = ∑ d : Fin 16, ∑ k : Fin 1024, f ⟨1024 * d.val + k.val, by omega⟩ := by
  rw [← Fintype.sum_prod_type' (fun (d : Fin 16) (k : Fin 1024) => f ⟨1024 * d.val + k.val, by omega⟩)]
  refine (Fintype.sum_equiv (finProdFinEquiv (m := 16) (n := 1024)) _ f fun x => congrArg f (Fin.ext ?_)).symm
  show 1024 * x.1.val + x.2.val = x.2.val + 1024 * x.1.val
  omega

/-- The shared activations. -/
abbrev argX (m' : (ℓ : Loc Cert.ReferenceIdeal.nD Cert.ReferenceIdeal.τ Cert.ReferenceIdeal.sig) → Buf (Elt Ideal) ℓ) :
    FVec Ideal Cert.ReferenceIdeal.S1x1024x1024 .f32 :=
  m' (((0 : Dev Cert.ReferenceIdeal.nD).tc : Thread Cert.ReferenceIdeal.nD Cert.ReferenceIdeal.τ).loc Cert.ReferenceIdeal.main_arg0)
/-- The whole query weights. -/
abbrev argWq (m' : (ℓ : Loc Cert.ReferenceIdeal.nD Cert.ReferenceIdeal.τ Cert.ReferenceIdeal.sig) → Buf (Elt Ideal) ℓ) :
    FVec Ideal Cert.ReferenceIdeal.S1024x16384 .f32 :=
  m' (((0 : Dev Cert.ReferenceIdeal.nD).tc : Thread Cert.ReferenceIdeal.nD Cert.ReferenceIdeal.τ).loc Cert.ReferenceIdeal.main_arg1)
/-- The shared keys. -/
abbrev argK (m' : (ℓ : Loc Cert.ReferenceIdeal.nD Cert.ReferenceIdeal.τ Cert.ReferenceIdeal.sig) → Buf (Elt Ideal) ℓ) :
    FVec Ideal Cert.ReferenceIdeal.S1x1024x128x128 .f32 :=
  m' (((0 : Dev Cert.ReferenceIdeal.nD).tc : Thread Cert.ReferenceIdeal.nD Cert.ReferenceIdeal.τ).loc Cert.ReferenceIdeal.main_arg2)
/-- The shared values. -/
abbrev argV (m' : (ℓ : Loc Cert.ReferenceIdeal.nD Cert.ReferenceIdeal.τ Cert.ReferenceIdeal.sig) → Buf (Elt Ideal) ℓ) :
    FVec Ideal Cert.ReferenceIdeal.S1x1024x128x128 .f32 :=
  m' (((0 : Dev Cert.ReferenceIdeal.nD).tc : Thread Cert.ReferenceIdeal.nD Cert.ReferenceIdeal.τ).loc Cert.ReferenceIdeal.main_arg3)
/-- The whole output weights. -/
abbrev argWo (m' : (ℓ : Loc Cert.ReferenceIdeal.nD Cert.ReferenceIdeal.τ Cert.ReferenceIdeal.sig) → Buf (Elt Ideal) ℓ) :
    FVec Ideal Cert.ReferenceIdeal.S16384x1024 .f32 :=
  m' (((0 : Dev Cert.ReferenceIdeal.nD).tc : Thread Cert.ReferenceIdeal.nD Cert.ReferenceIdeal.τ).loc Cert.ReferenceIdeal.main_arg4)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Every device holds the shared arrays and its own blocks of the weights. -/
def Holds : Prop :=
  ∀ c : Dev Cert.KernelIdeal.nD,
    m ((c.tc : Thread Cert.KernelIdeal.nD Cert.KernelIdeal.τ).loc Cert.KernelIdeal.main_arg0) = argX m'
    ∧ m ((c.tc : Thread Cert.KernelIdeal.nD Cert.KernelIdeal.τ).loc Cert.KernelIdeal.main_arg1)
        = Layout.block ⟨2, ![1024, 1024]⟩ ⟨2, ![1024, 16384]⟩ 1 16 c (argWq m')
    ∧ m ((c.tc : Thread Cert.KernelIdeal.nD Cert.KernelIdeal.τ).loc Cert.KernelIdeal.main_arg2) = argK m'
    ∧ m ((c.tc : Thread Cert.KernelIdeal.nD Cert.KernelIdeal.τ).loc Cert.KernelIdeal.main_arg3) = argV m'
    ∧ m ((c.tc : Thread Cert.KernelIdeal.nD Cert.KernelIdeal.τ).loc Cert.KernelIdeal.main_arg4)
        = Layout.block ⟨2, ![1024, 1024]⟩ ⟨2, ![16384, 1024]⟩ 0 16 c (argWo m')

/-- The column of the whole that is a device's column `k`. -/
def wholeCol (c : Dev Cert.KernelIdeal.nD) (k : Fin 1024) : Fin 16384 :=
  ⟨1024 * c.val + k.val, by have : c.val < 16 := c.isLt; omega⟩

/-- A block of columns at an index. -/
theorem cols_at (W : FVec Ideal ⟨2, ![1024, 16384]⟩ .f32) (c : Fin 16) (j k : Fin 1024) :
    Layout.block ⟨2, ![1024, 1024]⟩ ⟨2, ![1024, 16384]⟩ 1 16 c W (by decide) (ix2 j k) = W (ix2 j (wholeCol c k)) := by
  refine congrArg W (funext fun a => ?_)
  refine Fin.cases (Fin.ext rfl) (fun a => Fin.cases (Fin.ext ?_) (fun a => a.elim0) a) a
  show c.val * 1024 + k.val = 1024 * c.val + k.val
  omega

/-- A block of rows at an index. -/
theorem rows_at (W : FVec Ideal ⟨2, ![16384, 1024]⟩ .f32) (c : Fin 16) (k n : Fin 1024) :
    Layout.block ⟨2, ![1024, 1024]⟩ ⟨2, ![16384, 1024]⟩ 0 16 c W (by decide) (ix2 k n) = W (ix2 (wholeCol c k) n) := by
  refine congrArg W (funext fun a => ?_)
  refine Fin.cases (Fin.ext ?_) (fun a => Fin.cases (Fin.ext rfl) (fun a => a.elim0) a) a
  show c.val * 1024 + k.val = 1024 * c.val + k.val
  omega

variable {m m'}

/-- One device's summand at one of its columns is the reference's at that column of the whole. -/
theorem summand (hm : Holds m m') (c : Dev Cert.KernelIdeal.nD) (R n k : Fin 1024) :
    attend (queryOf (I m c) R (Cert.KernelIdeal.Own.headIx k)) (fun t e => (I m c).k (ix3 (Cert.KernelIdeal.Own.headIx k) t e))
        (fun t => (I m c).v (ix3 (Cert.KernelIdeal.Own.headIx k) t (Cert.KernelIdeal.Own.innerCol k))) R * (I m c).wo (ix2 k n)
      = attend (fun e : Fin 128 => ∑ j : Fin 1024, argX m' (ix3 0 R j)
            * argWq m' (ix2 j (Cert.ReferenceIdeal.Own.colIx (Cert.ReferenceIdeal.Own.headIx (wholeCol c k)) e)))
          (fun t e => argK m' (ix4 0 t (Cert.ReferenceIdeal.Own.headIx (wholeCol c k)) e))
          (fun t => argV m' (ix4 0 t (Cert.ReferenceIdeal.Own.headIx (wholeCol c k)) (Cert.ReferenceIdeal.Own.innerCol (wholeCol c k)))) R
        * argWo m' (ix2 (wholeCol c k) n) := by
  obtain ⟨h0, h1, h2, h3, h4⟩ := hm c
  have hh : Cert.KernelIdeal.Own.wholeHead c (Cert.KernelIdeal.Own.headIx k) = Cert.ReferenceIdeal.Own.headIx (wholeCol c k) :=
    Fin.ext (by show 8 * c.val + k.val / 128 = (1024 * c.val + k.val) / 128; omega)
  have hi : Cert.KernelIdeal.Own.innerCol k = Cert.ReferenceIdeal.Own.innerCol (wholeCol c k) :=
    Fin.ext (by show k.val % 128 = (1024 * c.val + k.val) % 128; omega)
  have hc (e : Fin 128) : wholeCol c (Cert.KernelIdeal.Own.colIx (Cert.KernelIdeal.Own.headIx k) e)
      = Cert.ReferenceIdeal.Own.colIx (Cert.ReferenceIdeal.Own.headIx (wholeCol c k)) e :=
    Fin.ext (by show 1024 * c.val + (128 * (k.val / 128) + e.val) = 128 * ((1024 * c.val + k.val) / 128) + e.val; omega)
  have q : queryOf (I m c) R (Cert.KernelIdeal.Own.headIx k) = fun e : Fin 128 => ∑ j : Fin 1024, argX m' (ix3 0 R j)
      * argWq m' (ix2 j (Cert.ReferenceIdeal.Own.colIx (Cert.ReferenceIdeal.Own.headIx (wholeCol c k)) e)) :=
    funext fun e => Finset.sum_congr rfl fun j _ => by
      rw [x_at, h0, Cert.KernelIdeal.Own.in_wq, h1, ← hc e]
      exact congrArg (argX m' (ix3 0 R j) * ·) (cols_at (argWq m') c j _)
  have kk : (fun (t : Fin 1024) (e : Fin 128) => (I m c).k (ix3 (Cert.KernelIdeal.Own.headIx k) t e))
      = fun t e => argK m' (ix4 0 t (Cert.ReferenceIdeal.Own.headIx (wholeCol c k)) e) :=
    funext fun t => funext fun e => by rw [Cert.KernelIdeal.Own.in_k, Cert.KernelIdeal.Own.headsOf_at, h2, hh]
  have vv : (fun (t : Fin 1024) => (I m c).v (ix3 (Cert.KernelIdeal.Own.headIx k) t (Cert.KernelIdeal.Own.innerCol k)))
      = fun t => argV m' (ix4 0 t (Cert.ReferenceIdeal.Own.headIx (wholeCol c k)) (Cert.ReferenceIdeal.Own.innerCol (wholeCol c k))) :=
    funext fun t => by rw [Cert.KernelIdeal.Own.in_v, Cert.KernelIdeal.Own.headsOf_at, h3, hh, hi]
  have ww : (I m c).wo (ix2 k n) = argWo m' (ix2 (wholeCol c k) n) := by
    rw [Cert.KernelIdeal.Own.in_wo, h4]
    exact rows_at (argWo m') c k n
  rw [q, kk, vv, ww]

attribute [local instance] pre_facts

/-- Every device's result is the reference's. -/
theorem results_eq (hp : Cert.Pre_KernelIdeal_scores_finite_KernelIdeal m) (hm : Holds m m') (c : Dev Cert.KernelIdeal.nD) :
    (Cert.KernelIdeal.Gen.V3 m (Cert.KernelIdeal.Own.outs m) c Cert.KernelIdeal.main_v21 : FVec Ideal Cert.KernelIdeal.S1x1024x1024 .f32)
      = (Cert.ReferenceIdeal.Value.res_out0 m' 0 : FVec Ideal Cert.ReferenceIdeal.S1x1024x1024 .f32) := by
  funext i
  obtain ⟨R, n, rfl⟩ : ∃ R n : Fin 1024, i = ix3 0 R n := ⟨i 1, i 2, funext fun a => by
    match a with
    | ⟨0, _⟩ => exact Fin.ext (by have h : (i 0).val < 1 := (i 0).isLt; show (i 0).val = 0; omega)
    | ⟨1, _⟩ => rfl
    | ⟨2, _⟩ => rfl⟩
  refine (Cert.KernelIdeal.Own.result_at m c R n).trans ?_
  refine (Cert.KernelIdeal.Own.outOf_at (I m) c R n).trans ?_
  rw [Cert.ReferenceIdeal.Own.composed]
  refine Eq.trans ?_ (Cert.ReferenceIdeal.Own.reference_at (argX m') (argWq m') (argK m') (argV m') (argWo m') R n).symm
  refine Eq.trans (α := EReal) ?_ (sum_columns _).symm
  refine Finset.sum_congr rfl fun d _ => ?_
  rw [Cert.KernelIdeal.Own.partOf_at _ (ins_real hp d)]
  exact Finset.sum_congr rfl fun k _ => summand hm d R n k

attribute [local instance] Cert.KernelIdeal.Gen.facts Cert.ReferenceIdeal.Gen.facts

/-- From finite activations, query weights and keys, every device ends with the reference's result. -/
theorem kernel_is_reference : Cert.algebraic_KernelIdeal_ReferenceIdeal_pre_scores_finite_KernelIdeal := fun m g m' g' hp hm =>
  ⟨Cert.ReferenceIdeal.Value.res_out0 m' 0,
    (θ_run _ _ _).mono (fun _ h c => by
      obtain ⟨h0, h1, h2, h3, h4, hr⟩ := h.1 c
      exact ⟨hr.trans (results_eq hp hm c), h0, h1, h2, h3, h4⟩) (Cert.KernelIdeal.Own.run_main m g),
    (θ_run _ _ _).mono (fun _ h => h 0) (Cert.ReferenceIdeal.Value.run m' g')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims.Frames
public import proofs.«01_k».proof.Proof.Claims.Algebraic
public import Idealize.ShloMosaic.Adequacy
public import Idealize.ShloMosaic.Init

@[expose] public section

noncomputable section

namespace Cert.Proof

open Idealize.ShloMosaic Idealize.SL.Sem Cert.Kernel

/-- All five claims; a frame that is asked for again under the precondition is the frame itself. -/
theorem claim : Cert.Claim := ⟨Cert.Kernel.Gen.facts, Cert.KernelIdeal.Gen.facts, Cert.ReferenceIdeal.Gen.facts, pre_facts, pre_facts',
  frame_kernel, frame_ideal, fun m ρ _ => frame_ideal m ρ trivial, frame_reference, fun m ρ _ => frame_reference m ρ trivial, mask_named,
  kernel_is_reference⟩

end Cert.Proof

end
